-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16384 : Shape := ⟨1, ![16384]⟩
abbrev S1000000x128 : Shape := ⟨2, ![1000000, 128]⟩
abbrev S32x128 : Shape := ⟨2, ![32, 128]⟩
abbrev S32 : Shape := ⟨1, ![32]⟩
abbrev S20x32 : Shape := ⟨2, ![20, 32]⟩
abbrev S20 : Shape := ⟨1, ![20]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000000x128 .f32) (main_arg2 : FVec F S32x128 .f32) (main_arg3 : FVec F S32 .f32) (main_arg4 : FVec F S20x32 .f32) (main_arg5 : FVec F S20 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000000x128 : Shape := ⟨2, ![1000000, 128]⟩
abbrev S32x128 : Shape := ⟨2, ![32, 128]⟩
abbrev S32 : Shape := ⟨1, ![32]⟩
abbrev S20x32 : Shape := ⟨2, ![20, 32]⟩
abbrev S20 : Shape := ⟨1, ![20]⟩
abbrev S32x4x128 : Shape := ⟨3, ![32, 4, 128]⟩
abbrev S4x128 : Shape := ⟨2, ![4, 128]⟩
abbrev S128x128 : Shape := ⟨2, ![128, 128]⟩
abbrev S128 : Shape := ⟨1, ![128]⟩
abbrev S_ : Shape := ⟨0, ![]⟩
abbrev S1x4x128 : Shape := ⟨3, ![1, 4, 128]⟩
abbrev S1x128 : Shape := ⟨2, ![1, 128]⟩
abbrev S16 : Shape := ⟨1, ![16]⟩
abbrev S1x16 : Shape := ⟨2, ![1, 16]⟩
abbrev S1x32 : Shape := ⟨2, ![1, 32]⟩
abbrev S1x20 : Shape := ⟨2, ![1, 20]⟩
abbrev S1 : Shape := ⟨1, ![1]⟩
abbrev S1x1 : Shape := ⟨2, ![1, 1]⟩

abbrev nBuf : Table → Nat
  | .hbm => 12
  | .local .tc .vmem => 6
  | .local .scVector .vmem => 4
  | _ => 0

abbrev bufTy : (tb : Table) → Fin (nBuf tb) → BufTy
  | .hbm, ⟨0, _⟩ => ⟨S16384, .i32⟩
  | .hbm, ⟨1, _⟩ => ⟨S1000000x128, .f32⟩
  | .hbm, ⟨2, _⟩ => ⟨S32x128, .f32⟩
  | .hbm, ⟨3, _⟩ => ⟨S32, .f32⟩
  | .hbm, ⟨4, _⟩ => ⟨S20x32, .f32⟩
  | .hbm, ⟨5, _⟩ => ⟨S20, .f32⟩
  | .hbm, ⟨6, _⟩ => ⟨S32x4x128, .i32⟩
  | .hbm, ⟨7, _⟩ => ⟨S32x128, .f32⟩
  | .hbm, ⟨8, _⟩ => ⟨S1x32, .f32⟩
  | .hbm, ⟨9, _⟩ => ⟨S1x20, .f32⟩
  | .hbm, ⟨10, _⟩ => ⟨S1x20, .f32⟩
  | .hbm, ⟨11, _⟩ => ⟨S20, .f32⟩
  | .local .tc .vmem, ⟨0, _⟩ => ⟨S32x128, .f32⟩
  | .local .tc .vmem, ⟨1, _⟩ => ⟨S32x128, .f32⟩
  | .local .tc .vmem, ⟨2, _⟩ => ⟨S1x32, .f32⟩
  | .local .tc .vmem, ⟨3, _⟩ => ⟨S20x32, .f32⟩
  | .local .tc .vmem, ⟨4, _⟩ => ⟨S1x20, .f32⟩
  | .local .tc .vmem, ⟨5, _⟩ => ⟨S1x20, .f32⟩
  | .local .scVector .vmem, ⟨0, _⟩ => ⟨S4x128, .i32⟩
  | .local .scVector .vmem, ⟨1, _⟩ => ⟨S128x128, .f32⟩
  | .local .scVector .vmem, ⟨2, _⟩ => ⟨S128x128, .f32⟩
  | .local .scVector .vmem, ⟨3, _⟩ => ⟨S128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v0_scv : Ref sig .scVector := ⟨.hbm, 6, rfl⟩
abbrev main_arg1_scv : Ref sig .scVector := ⟨.hbm, 1, rfl⟩
abbrev main_v1_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_51_r0 : BitVec 32 := 0#32
  let c0_i32_52_r0 : BitVec 32 := 0#32
  ![v1.toNat, 0, 0]
@[reducible] def k0_t1_loop : Scf.Loop 32 :=
  let c0_i32_17 : BitVec 32 := 0#32
  let c128_i32 : BitVec 32 := 128#32
  let v19 : BitVec 32 := Scalar.addi c0_i32_17 c128_i32
  let c1_i32_18 : BitVec 32 := 1#32
  ⟨c0_i32_17, v19, c1_i32_18⟩
def k0_off2 (k0_t1 : Fin k0_t1_loop.trips) : Fin 2 → Nat :=
  let c0_i32_52 : BitVec 32 := 0#32
  let c0_i32_17 : BitVec 32 := 0#32
  let c1_i32_18 : BitVec 32 := 1#32
  let arg11 : BitVec 32 := Scf.iv c0_i32_17 c1_i32_18 k0_t1
  let c1_i32_51 : BitVec 32 := 1#32
  let v66 : BitVec 32 := Scalar.muli arg11 c1_i32_51
  let v67 : BitVec 32 := Scalar.addi c0_i32_52 v66
  let v68 : Index := Scalar.indexCast v67
  let c0_53 : Index := 0#32
  ![v68.toNat, 0]
def k0_off3 (k0_t1 : Fin k0_t1_loop.trips) : Fin 2 → Nat :=
  let c0_i32_52 : BitVec 32 := 0#32
  let c0_i32_17 : BitVec 32 := 0#32
  let c1_i32_18 : BitVec 32 := 1#32
  let arg11 : BitVec 32 := Scf.iv c0_i32_17 c1_i32_18 k0_t1
  let c1_i32_51 : BitVec 32 := 1#32
  let v66 : BitVec 32 := Scalar.muli arg11 c1_i32_51
  let v67 : BitVec 32 := Scalar.addi c0_i32_52 v66
  let v72 : Index := Scalar.indexCast v67
  let c16_54 : Index := 16#32
  ![v72.toNat, 16]
def k0_off4 (k0_t1 : Fin k0_t1_loop.trips) : Fin 2 → Nat :=
  let c0_i32_52 : BitVec 32 := 0#32
  let c0_i32_17 : BitVec 32 := 0#32
  let c1_i32_18 : BitVec 32 := 1#32
  let arg11 : BitVec 32 := Scf.iv c0_i32_17 c1_i32_18 k0_t1
  let c1_i32_51 : BitVec 32 := 1#32
  let v66 : BitVec 32 := Scalar.muli arg11 c1_i32_51
  let v67 : BitVec 32 := Scalar.addi c0_i32_52 v66
  let v76 : Index := Scalar.indexCast v67
  let c32_55 : Index := 32#32
  ![v76.toNat, 32]
def k0_off5 (k0_t1 : Fin k0_t1_loop.trips) : Fin 2 → Nat :=
  let c0_i32_52 : BitVec 32 := 0#32
  let c0_i32_17 : BitVec 32 := 0#32
  let c1_i32_18 : BitVec 32 := 1#32
  let arg11 : BitVec 32 := Scf.iv c0_i32_17 c1_i32_18 k0_t1
  let c1_i32_51 : BitVec 32 := 1#32
  let v66 : BitVec 32 := Scalar.muli arg11 c1_i32_51
  let v67 : BitVec 32 := Scalar.addi c0_i32_52 v66
  let v80 : Index := Scalar.indexCast v67
  let c48_56 : Index := 48#32
  ![v80.toNat, 48]
def k0_off6 (k0_t1 : Fin k0_t1_loop.trips) : Fin 2 → Nat :=
  let c0_i32_52 : BitVec 32 := 0#32
  let c0_i32_17 : BitVec 32 := 0#32
  let c1_i32_18 : BitVec 32 := 1#32
  let arg11 : BitVec 32 := Scf.iv c0_i32_17 c1_i32_18 k0_t1
  let c1_i32_51 : BitVec 32 := 1#32
  let v66 : BitVec 32 := Scalar.muli arg11 c1_i32_51
  let v67 : BitVec 32 := Scalar.addi c0_i32_52 v66
  let v84 : Index := Scalar.indexCast v67
  let c64_57 : Index := 64#32
  ![v84.toNat, 64]
def k0_off7 (k0_t1 : Fin k0_t1_loop.trips) : Fin 2 → Nat :=
  let c0_i32_52 : BitVec 32 := 0#32
  let c0_i32_17 : BitVec 32 := 0#32
  let c1_i32_18 : BitVec 32 := 1#32
  let arg11 : BitVec 32 := Scf.iv c0_i32_17 c1_i32_18 k0_t1
  let c1_i32_51 : BitVec 32 := 1#32
  let v66 : BitVec 32 := Scalar.muli arg11 c1_i32_51
  let v67 : BitVec 32 := Scalar.addi c0_i32_52 v66
  let v88 : Index := Scalar.indexCast v67
  let c80_58 : Index := 80#32
  ![v88.toNat, 80]
def k0_off8 (k0_t1 : Fin k0_t1_loop.trips) : Fin 2 → Nat :=
  let c0_i32_52 : BitVec 32 := 0#32
  let c0_i32_17 : BitVec 32 := 0#32
  let c1_i32_18 : BitVec 32 := 1#32
  let arg11 : BitVec 32 := Scf.iv c0_i32_17 c1_i32_18 k0_t1
  let c1_i32_51 : BitVec 32 := 1#32
  let v66 : BitVec 32 := Scalar.muli arg11 c1_i32_51
  let v67 : BitVec 32 := Scalar.addi c0_i32_52 v66
  let v92 : Index := Scalar.indexCast v67
  let c96_59 : Index := 96#32
  ![v92.toNat, 96]
def k0_off9 (k0_t1 : Fin k0_t1_loop.trips) : Fin 2 → Nat :=
  let c0_i32_52 : BitVec 32 := 0#32
  let c0_i32_17 : BitVec 32 := 0#32
  let c1_i32_18 : BitVec 32 := 1#32
  let arg11 : BitVec 32 := Scf.iv c0_i32_17 c1_i32_18 k0_t1
  let c1_i32_51 : BitVec 32 := 1#32
  let v66 : BitVec 32 := Scalar.muli arg11 c1_i32_51
  let v67 : BitVec 32 := Scalar.addi c0_i32_52 v66
  let v96 : Index := Scalar.indexCast v67
  let c112_60 : Index := 112#32
  ![v96.toNat, 112]
@[reducible] def k0_t2_loop : Scf.Loop 32 :=
  let c0_i32_28 : BitVec 32 := 0#32
  let c128_i32_29 : BitVec 32 := 128#32
  let v27 : BitVec 32 := Scalar.addi c0_i32_28 c128_i32_29
  let c1_i32_30 : BitVec 32 := 1#32
  ⟨c0_i32_28, v27, c1_i32_30⟩
def k0_off10 (k0_t2 : Fin k0_t2_loop.trips) : Fin 2 → Nat :=
  let c0_i32_52 : BitVec 32 := 0#32
  let c0_i32_28 : BitVec 32 := 0#32
  let c1_i32_30 : BitVec 32 := 1#32
  let arg11 : BitVec 32 := Scf.iv c0_i32_28 c1_i32_30 k0_t2
  let c1_i32_51 : BitVec 32 := 1#32
  let v66 : BitVec 32 := Scalar.muli arg11 c1_i32_51
  let v67 : BitVec 32 := Scalar.addi c0_i32_52 v66
  let v68 : Index := Scalar.indexCast v67
  let c0_53 : Index := 0#32
  ![v68.toNat, 0]
def k0_off11 (k0_t2 : Fin k0_t2_loop.trips) : Fin 2 → Nat :=
  let c0_i32_52 : BitVec 32 := 0#32
  let c0_i32_28 : BitVec 32 := 0#32
  let c1_i32_30 : BitVec 32 := 1#32
  let arg11 : BitVec 32 := Scf.iv c0_i32_28 c1_i32_30 k0_t2
  let c1_i32_51 : BitVec 32 := 1#32
  let v66 : BitVec 32 := Scalar.muli arg11 c1_i32_51
  let v67 : BitVec 32 := Scalar.addi c0_i32_52 v66
  let v72 : Index := Scalar.indexCast v67
  let c16_54 : Index := 16#32
  ![v72.toNat, 16]
def k0_off12 (k0_t2 : Fin k0_t2_loop.trips) : Fin 2 → Nat :=
  let c0_i32_52 : BitVec 32 := 0#32
  let c0_i32_28 : BitVec 32 := 0#32
  let c1_i32_30 : BitVec 32 := 1#32
  let arg11 : BitVec 32 := Scf.iv c0_i32_28 c1_i32_30 k0_t2
  let c1_i32_51 : BitVec 32 := 1#32
  let v66 : BitVec 32 := Scalar.muli arg11 c1_i32_51
  let v67 : BitVec 32 := Scalar.addi c0_i32_52 v66
  let v76 : Index := Scalar.indexCast v67
  let c32_55 : Index := 32#32
  ![v76.toNat, 32]
def k0_off13 (k0_t2 : Fin k0_t2_loop.trips) : Fin 2 → Nat :=
  let c0_i32_52 : BitVec 32 := 0#32
  let c0_i32_28 : BitVec 32 := 0#32
  let c1_i32_30 : BitVec 32 := 1#32
  let arg11 : BitVec 32 := Scf.iv c0_i32_28 c1_i32_30 k0_t2
  let c1_i32_51 : BitVec 32 := 1#32
  let v66 : BitVec 32 := Scalar.muli arg11 c1_i32_51
  let v67 : BitVec 32 := Scalar.addi c0_i32_52 v66
  let v80 : Index := Scalar.indexCast v67
  let c48_56 : Index := 48#32
  ![v80.toNat, 48]
def k0_off14 (k0_t2 : Fin k0_t2_loop.trips) : Fin 2 → Nat :=
  let c0_i32_52 : BitVec 32 := 0#32
  let c0_i32_28 : BitVec 32 := 0#32
  let c1_i32_30 : BitVec 32 := 1#32
  let arg11 : BitVec 32 := Scf.iv c0_i32_28 c1_i32_30 k0_t2
  let c1_i32_51 : BitVec 32 := 1#32
  let v66 : BitVec 32 := Scalar.muli arg11 c1_i32_51
  let v67 : BitVec 32 := Scalar.addi c0_i32_52 v66
  let v84 : Index := Scalar.indexCast v67
  let c64_57 : Index := 64#32
  ![v84.toNat, 64]
def k0_off15 (k0_t2 : Fin k0_t2_loop.trips) : Fin 2 → Nat :=
  let c0_i32_52 : BitVec 32 := 0#32
  let c0_i32_28 : BitVec 32 := 0#32
  let c1_i32_30 : BitVec 32 := 1#32
  let arg11 : BitVec 32 := Scf.iv c0_i32_28 c1_i32_30 k0_t2
  let c1_i32_51 : BitVec 32 := 1#32
  let v66 : BitVec 32 := Scalar.muli arg11 c1_i32_51
  let v67 : BitVec 32 := Scalar.addi c0_i32_52 v66
  let v88 : Index := Scalar.indexCast v67
  let c80_58 : Index := 80#32
  ![v88.toNat, 80]
def k0_off16 (k0_t2 : Fin k0_t2_loop.trips) : Fin 2 → Nat :=
  let c0_i32_52 : BitVec 32 := 0#32
  let c0_i32_28 : BitVec 32 := 0#32
  let c1_i32_30 : BitVec 32 := 1#32
  let arg11 : BitVec 32 := Scf.iv c0_i32_28 c1_i32_30 k0_t2
  let c1_i32_51 : BitVec 32 := 1#32
  let v66 : BitVec 32 := Scalar.muli arg11 c1_i32_51
  let v67 : BitVec 32 := Scalar.addi c0_i32_52 v66
  let v92 : Index := Scalar.indexCast v67
  let c96_59 : Index := 96#32
  ![v92.toNat, 96]
def k0_off17 (k0_t2 : Fin k0_t2_loop.trips) : Fin 2 → Nat :=
  let c0_i32_52 : BitVec 32 := 0#32
  let c0_i32_28 : BitVec 32 := 0#32
  let c1_i32_30 : BitVec 32 := 1#32
  let arg11 : BitVec 32 := Scf.iv c0_i32_28 c1_i32_30 k0_t2
  let c1_i32_51 : BitVec 32 := 1#32
  let v66 : BitVec 32 := Scalar.muli arg11 c1_i32_51
  let v67 : BitVec 32 := Scalar.addi c0_i32_52 v66
  let v96 : Index := Scalar.indexCast v67
  let c112_60 : Index := 112#32
  ![v96.toNat, 112]
@[reducible] def k0_t3_loop : Scf.Loop 32 :=
  let c0_i32_39 : BitVec 32 := 0#32
  let c128_i32_40 : BitVec 32 := 128#32
  let v35 : BitVec 32 := Scalar.addi c0_i32_39 c128_i32_40
  let c1_i32_41 : BitVec 32 := 1#32
  ⟨c0_i32_39, v35, c1_i32_41⟩
def k0_off18 (k0_t3 : Fin k0_t3_loop.trips) : Fin 2 → Nat :=
  let c0_i32_52 : BitVec 32 := 0#32
  let c0_i32_39 : BitVec 32 := 0#32
  let c1_i32_41 : BitVec 32 := 1#32
  let arg11 : BitVec 32 := Scf.iv c0_i32_39 c1_i32_41 k0_t3
  let c1_i32_51 : BitVec 32 := 1#32
  let v66 : BitVec 32 := Scalar.muli arg11 c1_i32_51
  let v67 : BitVec 32 := Scalar.addi c0_i32_52 v66
  let v68 : Index := Scalar.indexCast v67
  let c0_53 : Index := 0#32
  ![v68.toNat, 0]
def k0_off19 (k0_t3 : Fin k0_t3_loop.trips) : Fin 2 → Nat :=
  let c0_i32_52 : BitVec 32 := 0#32
  let c0_i32_39 : BitVec 32 := 0#32
  let c1_i32_41 : BitVec 32 := 1#32
  let arg11 : BitVec 32 := Scf.iv c0_i32_39 c1_i32_41 k0_t3
  let c1_i32_51 : BitVec 32 := 1#32
  let v66 : BitVec 32 := Scalar.muli arg11 c1_i32_51
  let v67 : BitVec 32 := Scalar.addi c0_i32_52 v66
  let v72 : Index := Scalar.indexCast v67
  let c16_54 : Index := 16#32
  ![v72.toNat, 16]
def k0_off20 (k0_t3 : Fin k0_t3_loop.trips) : Fin 2 → Nat :=
  let c0_i32_52 : BitVec 32 := 0#32
  let c0_i32_39 : BitVec 32 := 0#32
  let c1_i32_41 : BitVec 32 := 1#32
  let arg11 : BitVec 32 := Scf.iv c0_i32_39 c1_i32_41 k0_t3
  let c1_i32_51 : BitVec 32 := 1#32
  let v66 : BitVec 32 := Scalar.muli arg11 c1_i32_51
  let v67 : BitVec 32 := Scalar.addi c0_i32_52 v66
  let v76 : Index := Scalar.indexCast v67
  let c32_55 : Index := 32#32
  ![v76.toNat, 32]
def k0_off21 (k0_t3 : Fin k0_t3_loop.trips) : Fin 2 → Nat :=
  let c0_i32_52 : BitVec 32 := 0#32
  let c0_i32_39 : BitVec 32 := 0#32
  let c1_i32_41 : BitVec 32 := 1#32
  let arg11 : BitVec 32 := Scf.iv c0_i32_39 c1_i32_41 k0_t3
  let c1_i32_51 : BitVec 32 := 1#32
  let v66 : BitVec 32 := Scalar.muli arg11 c1_i32_51
  let v67 : BitVec 32 := Scalar.addi c0_i32_52 v66
  let v80 : Index := Scalar.indexCast v67
  let c48_56 : Index := 48#32
  ![v80.toNat, 48]
def k0_off22 (k0_t3 : Fin k0_t3_loop.trips) : Fin 2 → Nat :=
  let c0_i32_52 : BitVec 32 := 0#32
  let c0_i32_39 : BitVec 32 := 0#32
  let c1_i32_41 : BitVec 32 := 1#32
  let arg11 : BitVec 32 := Scf.iv c0_i32_39 c1_i32_41 k0_t3
  let c1_i32_51 : BitVec 32 := 1#32
  let v66 : BitVec 32 := Scalar.muli arg11 c1_i32_51
  let v67 : BitVec 32 := Scalar.addi c0_i32_52 v66
  let v84 : Index := Scalar.indexCast v67
  let c64_57 : Index := 64#32
  ![v84.toNat, 64]
def k0_off23 (k0_t3 : Fin k0_t3_loop.trips) : Fin 2 → Nat :=
  let c0_i32_52 : BitVec 32 := 0#32
  let c0_i32_39 : BitVec 32 := 0#32
  let c1_i32_41 : BitVec 32 := 1#32
  let arg11 : BitVec 32 := Scf.iv c0_i32_39 c1_i32_41 k0_t3
  let c1_i32_51 : BitVec 32 := 1#32
  let v66 : BitVec 32 := Scalar.muli arg11 c1_i32_51
  let v67 : BitVec 32 := Scalar.addi c0_i32_52 v66
  let v88 : Index := Scalar.indexCast v67
  let c80_58 : Index := 80#32
  ![v88.toNat, 80]
def k0_off24 (k0_t3 : Fin k0_t3_loop.trips) : Fin 2 → Nat :=
  let c0_i32_52 : BitVec 32 := 0#32
  let c0_i32_39 : BitVec 32 := 0#32
  let c1_i32_41 : BitVec 32 := 1#32
  let arg11 : BitVec 32 := Scf.iv c0_i32_39 c1_i32_41 k0_t3
  let c1_i32_51 : BitVec 32 := 1#32
  let v66 : BitVec 32 := Scalar.muli arg11 c1_i32_51
  let v67 : BitVec 32 := Scalar.addi c0_i32_52 v66
  let v92 : Index := Scalar.indexCast v67
  let c96_59 : Index := 96#32
  ![v92.toNat, 96]
def k0_off25 (k0_t3 : Fin k0_t3_loop.trips) : Fin 2 → Nat :=
  let c0_i32_52 : BitVec 32 := 0#32
  let c0_i32_39 : BitVec 32 := 0#32
  let c1_i32_41 : BitVec 32 := 1#32
  let arg11 : BitVec 32 := Scf.iv c0_i32_39 c1_i32_41 k0_t3
  let c1_i32_51 : BitVec 32 := 1#32
  let v66 : BitVec 32 := Scalar.muli arg11 c1_i32_51
  let v67 : BitVec 32 := Scalar.addi c0_i32_52 v66
  let v96 : Index := Scalar.indexCast v67
  let c112_60 : Index := 112#32
  ![v96.toNat, 112]
@[reducible] def k0_t4_loop : Scf.Loop 32 :=
  let c0_i32_47 : BitVec 32 := 0#32
  let c128_i32_48 : BitVec 32 := 128#32
  let v40 : BitVec 32 := Scalar.addi c0_i32_47 c128_i32_48
  let c1_i32_49 : BitVec 32 := 1#32
  ⟨c0_i32_47, v40, c1_i32_49⟩
def k0_off26 (k0_t4 : Fin k0_t4_loop.trips) : Fin 2 → Nat :=
  let c0_i32_52 : BitVec 32 := 0#32
  let c0_i32_47 : BitVec 32 := 0#32
  let c1_i32_49 : BitVec 32 := 1#32
  let arg11 : BitVec 32 := Scf.iv c0_i32_47 c1_i32_49 k0_t4
  let c1_i32_51 : BitVec 32 := 1#32
  let v66 : BitVec 32 := Scalar.muli arg11 c1_i32_51
  let v67 : BitVec 32 := Scalar.addi c0_i32_52 v66
  let v68 : Index := Scalar.indexCast v67
  let c0_53 : Index := 0#32
  ![v68.toNat, 0]
def k0_off27 (k0_t4 : Fin k0_t4_loop.trips) : Fin 2 → Nat :=
  let c0_i32_52 : BitVec 32 := 0#32
  let c0_i32_47 : BitVec 32 := 0#32
  let c1_i32_49 : BitVec 32 := 1#32
  let arg11 : BitVec 32 := Scf.iv c0_i32_47 c1_i32_49 k0_t4
  let c1_i32_51 : BitVec 32 := 1#32
  let v66 : BitVec 32 := Scalar.muli arg11 c1_i32_51
  let v67 : BitVec 32 := Scalar.addi c0_i32_52 v66
  let v72 : Index := Scalar.indexCast v67
  let c16_54 : Index := 16#32
  ![v72.toNat, 16]
def k0_off28 (k0_t4 : Fin k0_t4_loop.trips) : Fin 2 → Nat :=
  let c0_i32_52 : BitVec 32 := 0#32
  let c0_i32_47 : BitVec 32 := 0#32
  let c1_i32_49 : BitVec 32 := 1#32
  let arg11 : BitVec 32 := Scf.iv c0_i32_47 c1_i32_49 k0_t4
  let c1_i32_51 : BitVec 32 := 1#32
  let v66 : BitVec 32 := Scalar.muli arg11 c1_i32_51
  let v67 : BitVec 32 := Scalar.addi c0_i32_52 v66
  let v76 : Index := Scalar.indexCast v67
  let c32_55 : Index := 32#32
  ![v76.toNat, 32]
def k0_off29 (k0_t4 : Fin k0_t4_loop.trips) : Fin 2 → Nat :=
  let c0_i32_52 : BitVec 32 := 0#32
  let c0_i32_47 : BitVec 32 := 0#32
  let c1_i32_49 : BitVec 32 := 1#32
  let arg11 : BitVec 32 := Scf.iv c0_i32_47 c1_i32_49 k0_t4
  let c1_i32_51 : BitVec 32 := 1#32
  let v66 : BitVec 32 := Scalar.muli arg11 c1_i32_51
  let v67 : BitVec 32 := Scalar.addi c0_i32_52 v66
  let v80 : Index := Scalar.indexCast v67
  let c48_56 : Index := 48#32
  ![v80.toNat, 48]
def k0_off30 (k0_t4 : Fin k0_t4_loop.trips) : Fin 2 → Nat :=
  let c0_i32_52 : BitVec 32 := 0#32
  let c0_i32_47 : BitVec 32 := 0#32
  let c1_i32_49 : BitVec 32 := 1#32
  let arg11 : BitVec 32 := Scf.iv c0_i32_47 c1_i32_49 k0_t4
  let c1_i32_51 : BitVec 32 := 1#32
  let v66 : BitVec 32 := Scalar.muli arg11 c1_i32_51
  let v67 : BitVec 32 := Scalar.addi c0_i32_52 v66
  let v84 : Index := Scalar.indexCast v67
  let c64_57 : Index := 64#32
  ![v84.toNat, 64]
def k0_off31 (k0_t4 : Fin k0_t4_loop.trips) : Fin 2 → Nat :=
  let c0_i32_52 : BitVec 32 := 0#32
  let c0_i32_47 : BitVec 32 := 0#32
  let c1_i32_49 : BitVec 32 := 1#32
  let arg11 : BitVec 32 := Scf.iv c0_i32_47 c1_i32_49 k0_t4
  let c1_i32_51 : BitVec 32 := 1#32
  let v66 : BitVec 32 := Scalar.muli arg11 c1_i32_51
  let v67 : BitVec 32 := Scalar.addi c0_i32_52 v66
  let v88 : Index := Scalar.indexCast v67
  let c80_58 : Index := 80#32
  ![v88.toNat, 80]
def k0_off32 (k0_t4 : Fin k0_t4_loop.trips) : Fin 2 → Nat :=
  let c0_i32_52 : BitVec 32 := 0#32
  let c0_i32_47 : BitVec 32 := 0#32
  let c1_i32_49 : BitVec 32 := 1#32
  let arg11 : BitVec 32 := Scf.iv c0_i32_47 c1_i32_49 k0_t4
  let c1_i32_51 : BitVec 32 := 1#32
  let v66 : BitVec 32 := Scalar.muli arg11 c1_i32_51
  let v67 : BitVec 32 := Scalar.addi c0_i32_52 v66
  let v92 : Index := Scalar.indexCast v67
  let c96_59 : Index := 96#32
  ![v92.toNat, 96]
def k0_off33 (k0_t4 : Fin k0_t4_loop.trips) : Fin 2 → Nat :=
  let c0_i32_52 : BitVec 32 := 0#32
  let c0_i32_47 : BitVec 32 := 0#32
  let c1_i32_49 : BitVec 32 := 1#32
  let arg11 : BitVec 32 := Scf.iv c0_i32_47 c1_i32_49 k0_t4
  let c1_i32_51 : BitVec 32 := 1#32
  let v66 : BitVec 32 := Scalar.muli arg11 c1_i32_51
  let v67 : BitVec 32 := Scalar.addi c0_i32_52 v66
  let v96 : Index := Scalar.indexCast v67
  let c112_60 : Index := 112#32
  ![v96.toNat, 112]
def k0_off34 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_51_r1 : BitVec 32 := 0#32
  ![v1.toNat, 0]
abbrev grid1 : Pipeline.Grid := .none

abbrev stage1_0 : Fin 1 → Memref sig .tc .vmem S32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S20x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x20 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x128 : Shape := ⟨2, ![1000000, 128]⟩
abbrev S32x128 : Shape := ⟨2, ![32, 128]⟩
abbrev S32 : Shape := ⟨1, ![32]⟩
abbrev S20x32 : Shape := ⟨2, ![20, 32]⟩
abbrev S20 : Shape := ⟨1, ![20]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S128 : Shape := ⟨1, ![128]⟩
abbrev S128x32 : Shape := ⟨2, ![128, 32]⟩
abbrev S32x20 : Shape := ⟨2, ![32, 20]⟩

abbrev nBuf : Space → Nat
  | .hbm => 54
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x128, .f32⟩
  | .hbm, ⟨2, _⟩ => ⟨S32x128, .f32⟩
  | .hbm, ⟨3, _⟩ => ⟨S32, .f32⟩
  | .hbm, ⟨4, _⟩ => ⟨S20x32, .f32⟩
  | .hbm, ⟨5, _⟩ => ⟨S20, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x128, .f32⟩
  | .hbm, ⟨25, _⟩ => ⟨S16384x128, .i1⟩
  | .hbm, ⟨26, _⟩ => ⟨S_, .f32⟩
  | .hbm, ⟨27, _⟩ => ⟨S16384x128, .f32⟩
  | .hbm, ⟨28, _⟩ => ⟨S16384x128, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128x32, .f32⟩
  | .hbm, ⟨35, _⟩ => ⟨S32, .f32⟩
  | .hbm, ⟨36, _⟩ => ⟨S32, .f32⟩
  | .hbm, ⟨37, _⟩ => ⟨S32, .f32⟩
  | .hbm, ⟨38, _⟩ => ⟨S32x20, .f32⟩
  | .hbm, ⟨39, _⟩ => ⟨S20, .f32⟩
  | .hbm, ⟨40, _⟩ => ⟨S20, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1, .f32⟩
  | .hbm, ⟨46, _⟩ => ⟨S20, .f32⟩
  | .hbm, ⟨47, _⟩ => ⟨S20, .f32⟩
  | .hbm, ⟨48, _⟩ => ⟨S20, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S20, .f32⟩
  | .hbm, ⟨53, _⟩ => ⟨S20, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩

abbrev nD : Nat := 1
abbrev τ : Topo := Topo.v7x

variable {F : FTy → Type} [FloatOps F]
-- ==== Proof.Setup.lean ====
/-
  What the one SparseCore call of the program computes, and the set-up its proof shares. The kernel sums, for each of
  its 32 tiles, the 512 rows of the embedding table named by the tile's 4 × 128 indices; the running sum is kept in
  eight registers of sixteen lanes, here the eight slices of ONE function on the 128 columns.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.ValueLayout
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds inside the certificate's algebra. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The values -/

/-- The eight registers that hold the 128 columns of `A`. -/
def regs (A : ℕ → F .f32) : FVec F S16 .f32 × FVec F S16 .f32 × FVec F S16 .f32 × FVec F S16 .f32 × FVec F S16 .f32 × FVec F S16 .f32 × FVec F S16 .f32 × FVec F S16 .f32 :=
  (fun x => A (x 0).val, fun x => A (16 + (x 0).val), fun x => A (32 + (x 0).val), fun x => A (48 + (x 0).val),
    fun x => A (64 + (x 0).val), fun x => A (80 + (x 0).val), fun x => A (96 + (x 0).val), fun x => A (112 + (x 0).val))

/-- Entry `(r, l)` of a 128 × 128 block (the coordinates taken modulo 128). -/
def blockAt (g : S128x128.Idx → F .f32) (r l : ℕ) : F .f32 := g (ix2 (Fin.ofNat 128 r : Fin 128) (Fin.ofNat 128 l : Fin 128))

variable [FloatOps F]

/-- One row of the block added to the running sums. -/
def addRow (g : S128x128.Idx → F .f32) (r : ℕ) (A : ℕ → F .f32) : ℕ → F .f32 := fun l => FloatOps.addf (A l) (blockAt g r l)

/-- The block's first `n` rows added to the running sums, in order. -/
def addRows (g : S128x128.Idx → F .f32) : ℕ → (ℕ → F .f32) → ℕ → F .f32
  | 0, A => A
  | n + 1, A => addRow g n (addRows g n A)

/-- The sums before any row: zero. -/
def zeros : ℕ → F .f32 := fun _ => Scalar.ofBits .f32 0x00000000#32

omit [FloatOps F] in
/-- The row of the table that index word `v` names. -/
def tableRow (v : BitVec 32) : Fin 1000000 := Fin.ofNat 1000000 v.toNat

omit [FloatOps F] in
/-- The 128 rows of the table named by chunk `j` of tile `w`'s indices. -/
def gathered (x : S32x4x128.Idx → Elt F .i32) (e : S1000000x128.Idx → F .f32) (w : Fin 32) (j : Fin 4) : S128x128.Idx → F .f32 :=
  fun y => e (ix2 (tableRow (x (ix3 w j (y 0 : Fin 128)))) (y 1 : Fin 128))

/-- The column sums of the 512 rows of tile `w`. -/
def tileSum (x : S32x4x128.Idx → Elt F .i32) (e : S1000000x128.Idx → F .f32) (w : Fin 32) : ℕ → F .f32 :=
  addRows (gathered x e w 3) 128 (addRows (gathered x e w 2) 128 (addRows (gathered x e w 1) 128 (addRows (gathered x e w 0) 128 zeros)))

/-- What the call leaves in its result: row `w` the sums of tile `w`. -/
def poolOut (x : S32x4x128.Idx → Elt F .i32) (e : S1000000x128.Idx → F .f32) : S32x128.Idx → F .f32 := fun y => tileSum x e (y 0) (y 1).val

/-! ## The buffers as a tile addresses them -/

abbrev xV : Memref sig .scVector .hbm S32x4x128 .i32 := Memref.whole main_v0_scv
abbrev eV : Memref sig .scVector .hbm S1000000x128 .f32 := Memref.whole main_arg1_scv
abbrev oV : Memref sig .scVector .hbm S32x128 .f32 := Memref.whole main_v1_scv
abbrev iS : Memref sig .scVector .vmem S4x128 .i32 := Memref.whole cc0_scratch0
abbrev aS : Memref sig .scVector .vmem S128x128 .f32 := Memref.whole cc0_scratch1
abbrev bS : Memref sig .scVector .vmem S128x128 .f32 := Memref.whole cc0_scratch2
abbrev cS : Memref sig .scVector .vmem S128 .f32 := Memref.whole cc0_scratch3

abbrev cV (L : grid0.Coords) : Fin τ.nSC := (L 0).castLE hcore0
abbrev jV (L : grid0.Coords) : Fin τ.nSub := (L 1).castLE hsub0

/-- A loop that has run its 128 trips has added the block. -/
theorem regs_done {acc} {g : S128x128.Idx → F .f32} {n : ℕ} {A : ℕ → F .f32} (h : acc = regs (addRows g n A)) (hn : n = 128) : acc = regs (addRows g 128 A) :=
  hn ▸ h

/-- A loop starts from the sums the loop before it left. -/
theorem regs_start {acc} {g g' : S128x128.Idx → F .f32} {n : ℕ} {A : ℕ → F .f32} (h : acc = regs (addRows g n A)) (hn : n = 128) :
    acc = regs (addRows g' 0 (addRows g 128 A)) := regs_done h hn

/-! ## One trip of a loop: a row of the block added -/

omit [FloatOps F] in
/-- Sixteen lanes loaded from row `k`, column `o` on, as a vector of sixteen: the block's entries there. -/
theorem lanes_eq (g : S128x128.Idx → F .f32) {off : Fin 2 → ℕ} {k o : ℕ} (hoff : off = ![k, o]) (hk : k < 128) (ho : o + 16 ≤ 128)
    (inb : ∀ a, off a + S1x16.size a ≤ S128x128.size a) (x : S16.Idx) :
    shapeCast S16 (fun y : S1x16.Idx => g ((Rect.unit (s := S128x128) off S1x16.size inb).toLoadRect.idx y)) shapeCasts_S1x16_S16 x
      = blockAt g k (o + (x 0).val) := by
  subst hoff
  have hx : (x 0).val < 16 := (x 0).isLt
  refine (shapeCast_apply _ _ x (ix2 (0 : Fin 1) (x 0 : Fin 16) : S1x16.Idx)
    ((Shape.rowMajor_val_two _).trans (.trans (show 0 * 16 + (x 0).val = (x 0).val by omega) (Shape.rowMajor_val_one _).symm))).trans ?_
  unfold blockAt
  refine congrArg g (funext fun a => Fin.ext ?_)
  match a with
  | 0 => show k + 1 * 0 = k % 128; omega
  | 1 => show o + 1 * (x 0).val = (o + (x 0).val) % 128; omega

set_option maxHeartbeats 4000000 in
/-- A trip of the first loop adds row `k` of the block to the running sums. -/
theorem trip1 (d : Dev nD) (L : grid0.Coords) (a8 a9 a10 a11 a12 a13 a14 a15 : FVec F S16 .f32) (g : S128x128.Idx → F .f32) (A : ℕ → F .f32) (k : Fin k0_t1_loop.trips) :
    (aS.view.loc (V d (cV L) (jV L)) ↦{fullShare} g : sProp 𝕄)
      ⊢ wp frame (wpE (defs₀ (F := F)) 𝒱₀ (V d (cV L) (jV L)) none) Set.univ
          (k0_t1_body L xV (Memref.isWhole_whole _) eV (Memref.isWhole_whole _) oV (Memref.isWhole_whole _) iS (Memref.isWhole_whole _)
            aS (Memref.isWhole_whole _) bS (Memref.isWhole_whole _) cS (Memref.isWhole_whole _) cc0_scratch4 cc0_scratch5 cc0_scoped0 cc0_scoped1
            a8 a9 a10 a11 a12 a13 a14 a15 k (regs (addRows g k.val A)))
          fun acc => iprop((aS.view.loc (V d (cV L) (jV L)) ↦{fullShare} g) ∗ ⌜acc = regs (addRows g (k.val + 1) A)⌝) := by
  generalize hB : addRows g k.val A = B
  have hs : addRows g (k.val + 1) A = addRow g k.val B := hB ▸ rfl
  rw [hs]
  unfold k0_t1_body regs
  iintro Ha
  sl_exec
  sl_step
  isplitl [Ha]; · iexact Ha
  ipureintro
  have hk : k.val < 128 := k.isLt
  refine Prod.ext (funext fun x => ?_) (Prod.ext (funext fun x => ?_) (Prod.ext (funext fun x => ?_) (Prod.ext (funext fun x => ?_)
    (Prod.ext (funext fun x => ?_) (Prod.ext (funext fun x => ?_) (Prod.ext (funext fun x => ?_) (funext fun x => ?_)))))))
  · exact congrArg _ ((lanes_eq g (k0_off2_eq k) hk (by decide) _ x).trans (by rw [Nat.zero_add]))
  · exact congrArg _ (lanes_eq g (k0_off3_eq k) hk (by decide) _ x)
  · exact congrArg _ (lanes_eq g (k0_off4_eq k) hk (by decide) _ x)
  · exact congrArg _ (lanes_eq g (k0_off5_eq k) hk (by decide) _ x)
  · exact congrArg _ (lanes_eq g (k0_off6_eq k) hk (by decide) _ x)
  · exact congrArg _ (lanes_eq g (k0_off7_eq k) hk (by decide) _ x)
  · exact congrArg _ (lanes_eq g (k0_off8_eq k) hk (by decide) _ x)
  · exact congrArg _ (lanes_eq g (k0_off9_eq k) hk (by decide) _ x)

set_option maxHeartbeats 4000000 in
/-- A trip of the second loop adds row `k` of the block to the running sums. -/
theorem trip2 (d : Dev nD) (L : grid0.Coords) (a8 a9 a10 a11 a12 a13 a14 a15 : FVec F S16 .f32) (g : S128x128.Idx → F .f32) (A : ℕ → F .f32) (k : Fin k0_t2_loop.trips) :
    (bS.view.loc (V d (cV L) (jV L)) ↦{fullShare} g : sProp 𝕄)
      ⊢ wp frame (wpE (defs₀ (F := F)) 𝒱₀ (V d (cV L) (jV L)) none) Set.univ
          (k0_t2_body L xV (Memref.isWhole_whole _) eV (Memref.isWhole_whole _) oV (Memref.isWhole_whole _) iS (Memref.isWhole_whole _)
            aS (Memref.isWhole_whole _) bS (Memref.isWhole_whole _) cS (Memref.isWhole_whole _) cc0_scratch4 cc0_scratch5 cc0_scoped0 cc0_scoped1
            a8 a9 a10 a11 a12 a13 a14 a15 k (regs (addRows g k.val A)))
          fun acc => iprop((bS.view.loc (V d (cV L) (jV L)) ↦{fullShare} g) ∗ ⌜acc = regs (addRows g (k.val + 1) A)⌝) := by
  generalize hB : addRows g k.val A = B
  have hs : addRows g (k.val + 1) A = addRow g k.val B := hB ▸ rfl
  rw [hs]
  unfold k0_t2_body regs
  iintro Ha
  sl_exec
  sl_step
  isplitl [Ha]; · iexact Ha
  ipureintro
  have hk : k.val < 128 := k.isLt
  refine Prod.ext (funext fun x => ?_) (Prod.ext (funext fun x => ?_) (Prod.ext (funext fun x => ?_) (Prod.ext (funext fun x => ?_)
    (Prod.ext (funext fun x => ?_) (Prod.ext (funext fun x => ?_) (Prod.ext (funext fun x => ?_) (funext fun x => ?_)))))))
  · exact congrArg _ ((lanes_eq g (k0_off10_eq k) hk (by decide) _ x).trans (by rw [Nat.zero_add]))
  · exact congrArg _ (lanes_eq g (k0_off11_eq k) hk (by decide) _ x)
  · exact congrArg _ (lanes_eq g (k0_off12_eq k) hk (by decide) _ x)
  · exact congrArg _ (lanes_eq g (k0_off13_eq k) hk (by decide) _ x)
  · exact congrArg _ (lanes_eq g (k0_off14_eq k) hk (by decide) _ x)
  · exact congrArg _ (lanes_eq g (k0_off15_eq k) hk (by decide) _ x)
  · exact congrArg _ (lanes_eq g (k0_off16_eq k) hk (by decide) _ x)
  · exact congrArg _ (lanes_eq g (k0_off17_eq k) hk (by decide) _ x)

set_option maxHeartbeats 4000000 in
/-- A trip of the third loop adds row `k` of the block to the running sums. -/
theorem trip3 (d : Dev nD) (L : grid0.Coords) (a8 a9 a10 a11 a12 a13 a14 a15 : FVec F S16 .f32) (g : S128x128.Idx → F .f32) (A : ℕ → F .f32) (k : Fin k0_t3_loop.trips) :
    (aS.view.loc (V d (cV L) (jV L)) ↦{fullShare} g : sProp 𝕄)
      ⊢ wp frame (wpE (defs₀ (F := F)) 𝒱₀ (V d (cV L) (jV L)) none) Set.univ
          (k0_t3_body L xV (Memref.isWhole_whole _) eV (Memref.isWhole_whole _) oV (Memref.isWhole_whole _) iS (Memref.isWhole_whole _)
            aS (Memref.isWhole_whole _) bS (Memref.isWhole_whole _) cS (Memref.isWhole_whole _) cc0_scratch4 cc0_scratch5 cc0_scoped0 cc0_scoped1
            a8 a9 a10 a11 a12 a13 a14 a15 k (regs (addRows g k.val A)))
          fun acc => iprop((aS.view.loc (V d (cV L) (jV L)) ↦{fullShare} g) ∗ ⌜acc = regs (addRows g (k.val + 1) A)⌝) := by
  generalize hB : addRows g k.val A = B
  have hs : addRows g (k.val + 1) A = addRow g k.val B := hB ▸ rfl
  rw [hs]
  unfold k0_t3_body regs
  iintro Ha
  sl_exec
  sl_step
  isplitl [Ha]; · iexact Ha
  ipureintro
  have hk : k.val < 128 := k.isLt
  refine Prod.ext (funext fun x => ?_) (Prod.ext (funext fun x => ?_) (Prod.ext (funext fun x => ?_) (Prod.ext (funext fun x => ?_)
    (Prod.ext (funext fun x => ?_) (Prod.ext (funext fun x => ?_) (Prod.ext (funext fun x => ?_) (funext fun x => ?_)))))))
  · exact congrArg _ ((lanes_eq g (k0_off18_eq k) hk (by decide) _ x).trans (by rw [Nat.zero_add]))
  · exact congrArg _ (lanes_eq g (k0_off19_eq k) hk (by decide) _ x)
  · exact congrArg _ (lanes_eq g (k0_off20_eq k) hk (by decide) _ x)
  · exact congrArg _ (lanes_eq g (k0_off21_eq k) hk (by decide) _ x)
  · exact congrArg _ (lanes_eq g (k0_off22_eq k) hk (by decide) _ x)
  · exact congrArg _ (lanes_eq g (k0_off23_eq k) hk (by decide) _ x)
  · exact congrArg _ (lanes_eq g (k0_off24_eq k) hk (by decide) _ x)
  · exact congrArg _ (lanes_eq g (k0_off25_eq k) hk (by decide) _ x)

set_option maxHeartbeats 4000000 in
/-- A trip of the fourth loop adds row `k` of the block to the running sums. -/
theorem trip4 (d : Dev nD) (L : grid0.Coords) (a8 a9 a10 a11 a12 a13 a14 a15 : FVec F S16 .f32) (g : S128x128.Idx → F .f32) (A : ℕ → F .f32) (k : Fin k0_t4_loop.trips) :
    (bS.view.loc (V d (cV L) (jV L)) ↦{fullShare} g : sProp 𝕄)
      ⊢ wp frame (wpE (defs₀ (F := F)) 𝒱₀ (V d (cV L) (jV L)) none) Set.univ
          (k0_t4_body L xV (Memref.isWhole_whole _) eV (Memref.isWhole_whole _) oV (Memref.isWhole_whole _) iS (Memref.isWhole_whole _)
            aS (Memref.isWhole_whole _) bS (Memref.isWhole_whole _) cS (Memref.isWhole_whole _) cc0_scratch4 cc0_scratch5 cc0_scoped0 cc0_scoped1
            a8 a9 a10 a11 a12 a13 a14 a15 k (regs (addRows g k.val A)))
          fun acc => iprop((bS.view.loc (V d (cV L) (jV L)) ↦{fullShare} g) ∗ ⌜acc = regs (addRows g (k.val + 1) A)⌝) := by
  generalize hB : addRows g k.val A = B
  have hs : addRows g (k.val + 1) A = addRow g k.val B := hB ▸ rfl
  rw [hs]
  unfold k0_t4_body regs
  iintro Ha
  sl_exec
  sl_step
  isplitl [Ha]; · iexact Ha
  ipureintro
  have hk : k.val < 128 := k.isLt
  refine Prod.ext (funext fun x => ?_) (Prod.ext (funext fun x => ?_) (Prod.ext (funext fun x => ?_) (Prod.ext (funext fun x => ?_)
    (Prod.ext (funext fun x => ?_) (Prod.ext (funext fun x => ?_) (Prod.ext (funext fun x => ?_) (funext fun x => ?_)))))))
  · exact congrArg _ ((lanes_eq g (k0_off26_eq k) hk (by decide) _ x).trans (by rw [Nat.zero_add]))
  · exact congrArg _ (lanes_eq g (k0_off27_eq k) hk (by decide) _ x)
  · exact congrArg _ (lanes_eq g (k0_off28_eq k) hk (by decide) _ x)
  · exact congrArg _ (lanes_eq g (k0_off29_eq k) hk (by decide) _ x)
  · exact congrArg _ (lanes_eq g (k0_off30_eq k) hk (by decide) _ x)
  · exact congrArg _ (lanes_eq g (k0_off31_eq k) hk (by decide) _ x)
  · exact congrArg _ (lanes_eq g (k0_off32_eq k) hk (by decide) _ x)
  · exact congrArg _ (lanes_eq g (k0_off33_eq k) hk (by decide) _ x)

end Cert.Proof.Pool

end
-- ==== Proof.Tile.lean ====
/-
  One tile's task: fetch its four rows of indices, gather the table's rows they name in two buffers in turn, add them
  up, write the 128 sums to the tile's row of the result.
-/
module

public import proofs.«01_k».proof.Proof.Setup

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Tactic

variable {F : FTy → Type}

local notation "𝕄" => MT nD τ sig (HIx 1) (Elt F) ℕ UU ℕ

variable [FloatOps F] (d : Dev nD) (L : grid0.Coords)

/-! ## The four gathers -/

/-- The whole table, as the gathers read it. -/
abbrev eAll : Memref sig .scVector .hbm S1000000x128 .f32 :=
  eV.slice (Rect.unit (s := S1000000x128) ![0, 0] S1000000x128.size inb_S1000000x128_S1000000x128_0_0) (fun _ => rfl)

/-- A row of the index scratch, as a list of 128 indices. -/
abbrev lRow (off : Fin 2 → ℕ) (inb : ∀ a, off a + S1x128.size a ≤ S4x128.size a) : Memref sig .scVector .vmem S128 .i32 :=
  (iS.slice (Rect.unit (s := S4x128) off S1x128.size inb) (fun _ => rfl)).squeeze S128 squeezes_S1x128_S128

omit [FloatOps F] in
/-- Row `j` of the index scratch reads the scratch's row `j`. -/
theorem read_lRow {off : Fin 2 → ℕ} (j : Fin 4) (hoff : off = ![j.val, 0]) (inb : ∀ a, off a + S1x128.size a ≤ S4x128.size a)
    (f : S4x128.Idx → Elt F .i32) (y : S128.Idx) : (lRow off inb).view.read (Elt F) f y = f (ix2 j (y 0 : Fin 128)) := by
  subst hoff
  refine (View.read_apply _ _).trans ((cast_eq _ _).trans (congrArg f ?_))
  show ((Rect.unit (s := S4x128) ![j.val, 0] S1x128.size inb).emb (Shape.reshapeEquiv squeezes_S1x128_S128.numel_eq y)) = _
  have e : Shape.reshapeEquiv squeezes_S1x128_S128.numel_eq y = (ix2 (0 : Fin 1) (y 0 : Fin 128) : S1x128.Idx) :=
    Shape.reshapeEquiv_eq_of_rowMajor _ ((Shape.rowMajor_val_two _).trans
      (.trans (show 0 * 128 + (y 0).val = (y 0).val by omega) (Shape.rowMajor_val_one _).symm))
  rw [e]
  refine funext fun a => Fin.ext ?_
  match a with
  | 0 => show j.val + 1 * 0 = j.val; omega
  | 1 => show 0 + 1 * (y 0).val = (y 0).val; omega

omit [FloatOps F] in
/-- Every index of the scratch is below the table's length: so is every index of a row of it. -/
theorem lRow_lt {off : Fin 2 → ℕ} (j : Fin 4) (hoff : off = ![j.val, 0]) (inb : ∀ a, off a + S1x128.size a ≤ S4x128.size a)
    (f : S4x128.Idx → Elt F .i32) (hf : ∀ y, (f y).toNat < 1000000) (y : S128.Idx) :
    ((lRow off inb).view.read (Elt F) f y).toNat < S1000000x128.size gathers_S1000000x128_S128x128.axis := by
  rw [read_lRow j hoff]; exact hf _

omit [FloatOps F] in
/-- The rows a gather brings: those of the table that row `j` of the tile's indices names. -/
theorem gather_eq {off : Fin 2 → ℕ} (j : Fin 4) (hoff : off = ![j.val, 0]) (inb : ∀ a, off a + S1x128.size a ≤ S4x128.size a)
    (f : S4x128.Idx → Elt F .i32) (x : S32x4x128.Idx → Elt F .i32) (e : S1000000x128.Idx → F .f32) (w : Fin 32)
    (hf : ∀ (j : Fin 4) (r : Fin 128), f (ix2 j r) = x (ix3 w j r)) (hx : ∀ y, (x y).toNat < 1000000)
    (hin : ∀ y, ((lRow off inb).view.read (Elt F) f y).toNat < S1000000x128.size gathers_S1000000x128_S128x128.axis) :
    SparseCore.gatherPayload gathers_S1000000x128_S128x128 (eAll.view.read (Elt F) e) (SparseCore.rows ((lRow off inb).view.read (Elt F) f) rfl hin)
      = gathered x e w j := by
  funext y
  unfold SparseCore.gatherPayload gathered
  refine (View.read_apply _ _).trans ((cast_eq _ _).trans (congrArg e ?_))
  refine funext fun a => Fin.ext ?_
  match a with
  | 0 =>
    have key : ∀ z : S128.Idx, (z 0 : Fin 128) = (y 0 : Fin 128) →
        ((lRow off inb).view.read (Elt F) f z).toNat = (tableRow (x (ix3 w j (y 0 : Fin 128)))).val := by
      intro z hz
      exact (congrArg BitVec.toNat ((read_lRow j hoff inb f z).trans ((congrArg (fun r : Fin 128 => f (ix2 j r)) hz).trans (hf j _)))).trans
        (Nat.mod_eq_of_lt (hx _)).symm
    refine (Nat.zero_add _).trans ((Nat.one_mul _).trans (key _ ?_))
    have h := Shape.rowMajor_val_one (S128.rowMajor.symm ((y 0 : Fin 128).cast (rfl : 128 = S128.numel)))
    have h' := congrArg Fin.val (Equiv.apply_symm_apply S128.rowMajor ((y 0 : Fin 128).cast (rfl : 128 = S128.numel)))
    exact Fin.ext (h.symm.trans h')
  | 1 => show 0 + 1 * (y 1).val = (y 1).val; omega

/-- What a gather of chunk `j` delivers: the buffer at the gathered rows, and the shares of the table and of the indices back. -/
abbrev Landed (dst : Memref sig .scVector .vmem S128x128 .f32) (off : Fin 2 → ℕ) (inb : ∀ a, off a + S1x128.size a ≤ S4x128.size a)
    (g : Buf (Elt F) (dst.view.loc (V d (cV L) (jV L)))) (q qo : PosShare TreeShare) (f : S4x128.Idx → Elt F .i32) (e : S1000000x128.Idx → F .f32) : sProp 𝕄 :=
  iprop((dst.view.loc (V d (cV L) (jV L)) ↦[dst.view.set]{fullShare} g) ∗ (eAll.view.loc (V d (cV L) (jV L)) ↦[eAll.view.set]{q} e)
    ∗ ((lRow off inb).view.loc (V d (cV L) (jV L)) ↦[(lRow off inb).view.set]{qo} f))

/-- What stays behind of a share of the table and of the indices while a gather holds the rest. -/
abbrev Kept (off : Fin 2 → ℕ) (inb : ∀ a, off a + S1x128.size a ≤ S4x128.size a) (q qo : PosShare TreeShare) (f : S4x128.Idx → Elt F .i32)
    (e : S1000000x128.Idx → F .f32) : sProp 𝕄 :=
  iprop((eV.view.loc (V d (cV L) (jV L)) ↦[Finset.univ \ eAll.view.set]{q} e)
    ∗ (iS.view.loc (V d (cV L) (jV L)) ↦[Finset.univ \ (lRow off inb).view.set]{qo} f))

omit [FloatOps F] in
/-- The shares whole again. -/
theorem landed_join (dst : Memref sig .scVector .vmem S128x128 .f32) (off : Fin 2 → ℕ) (inb : ∀ a, off a + S1x128.size a ≤ S4x128.size a)
    (g : Buf (Elt F) (dst.view.loc (V d (cV L) (jV L)))) (q qo : PosShare TreeShare) (f : S4x128.Idx → Elt F .i32) (e : S1000000x128.Idx → F .f32) :
    iprop(Landed d L dst off inb g q qo f e ∗ Kept d L off inb q qo f e)
      ⊢ (iprop((dst.view.loc (V d (cV L) (jV L)) ↦[dst.view.set]{fullShare} g) ∗ (eV.view.loc (V d (cV L) (jV L)) ↦{q} e)
          ∗ (iS.view.loc (V d (cV L) (jV L)) ↦{qo} f)) : sProp 𝕄) := by
  iintro ⟨⟨Hd, He, Hl⟩, He', Hl'⟩
  isplitl [Hd]; · iexact Hd
  isplitl [He He']
  · iapply (pointsTo_split_subset (q := q) (f := e) (S := Finset.univ) (Finset.subset_univ eAll.view.set)).2
    isplitl [He] <;> iassumption
  · iapply (pointsTo_split_subset (q := qo) (f := f) (S := Finset.univ) (Finset.subset_univ (lRow off inb).view.set)).2
    isplitl [Hl] <;> iassumption

omit [FloatOps F] in
/-- A write of every element of a view that is its whole buffer leaves the payload. -/
theorem write_all {κ : Kind} {sp : Space} {s : Shape} {t : EltTy} (v : View sig κ sp s t) (hset : v.set = Finset.univ) (f : v.ty.Contents (Elt F)) (w : s.Idx → Elt F t)
    (g : v.ty.Contents (Elt F)) (hg : ∀ y, g (v.emb y) = _root_.cast (congrArg (Elt F) v.elt_eq.symm) (w y)) : v.write (Elt F) f w Finset.univ = g := by
  funext i
  have hi : i ∈ v.set := hset ▸ Finset.mem_univ i
  obtain ⟨y, _, rfl⟩ := Finset.mem_map.mp hi
  rw [View.write_emb_of_mem _ _ (Finset.mem_univ y), hg]

/-- Issuing the gather of chunk `j` into `dst`: from a share of the table, a share of the indices, the buffer and the
    semaphore at zero, the gather in flight, which will deliver the rows the indices name. -/
theorem gather_issue {α : Type} {Q : α → sProp 𝕄} (dst : Memref sig .scVector .vmem S128x128 .f32) (hset : dst.view.set = Finset.univ)
    {off : Fin 2 → ℕ} (j : Fin 4) (hoff : off = ![j.val, 0]) (inb : ∀ a, off a + S1x128.size a ≤ S4x128.size a) (sem : DmaSem sig) (N : ℕ)
    (hN : ∑ i, (dst.slice (S128x128.rowRect gathers_S1000000x128_S128x128.axis' i) (S128x128.stride_rowRect gathers_S1000000x128_S128x128.axis' i)).view.dmaCredit = N)
    (f : S4x128.Idx → Elt F .i32) (x : S32x4x128.Idx → Elt F .i32) (e : S1000000x128.Idx → F .f32) (w : Fin 32)
    (hf : ∀ (j : Fin 4) (r : Fin 128), f (ix2 j r) = x (ix3 w j r)) (hx : ∀ y, (x y).toNat < 1000000) (hfx : ∀ y, (f y).toNat < 1000000)
    (q qo : PosShare TreeShare) (fd g : Buf (Elt F) (dst.view.loc (V d (cV L) (jV L))))
    (hg : ∀ y, g (dst.view.emb y) = _root_.cast (congrArg (Elt F) dst.view.elt_eq.symm) (gathered x e w j y))
    {hp hsrc he hsp hr} {k : PUnit → Prog (TpuEff nD τ sig (Elt F) Λ₀ (.scVector (cV L) (jV L))) α} :
    iprop((eV.view.loc (V d (cV L) (jV L)) ↦{q} e) ∗ (dst.view.loc (V d (cV L) (jV L)) ↦[dst.view.set]{fullShare} fd)
        ∗ (iS.view.loc (V d (cV L) (jV L)) ↦{qo} f) ∗ semVal (V d (cV L) (jV L), SemLoc.dma sem) 0)
      ⊢ iprop((iprop(Transfers.Flight countersEmb (V d (cV L) (jV L)) (.dma sem) (default : HIx 1) N (Landed d L dst off inb g q qo f e) ∗ Kept d L off inb q qo f e)
              -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.enqueueIndirectGather hp eAll dst gathers_S1000000x128_S128x128 (lRow off inb) rfl sem hsrc he hsp hr >>= k) Q) := by
  have hin := lRow_lt j hoff inb f hfx
  iintro ⟨He, Hd, Hl, Hs⟩ Hk
  ihave Hes := (pointsTo_split_subset (q := q) (f := e) (S := Finset.univ) (Finset.subset_univ eAll.view.set)).1 $$ He
  icases Hes with ⟨He, He'⟩
  ihave Hls := (pointsTo_split_subset (q := qo) (f := f) (S := Finset.univ) (Finset.subset_univ (lRow off inb).view.set)).1 $$ Hl
  icases Hls with ⟨Hl, Hl'⟩
  iapply (SparseCore.wp_indirectGatherLocal countersEmb 𝒱₀ (V d (cV L) (jV L)) none (src := eAll) (dst := dst) (offs := lRow off inb)
    (hg := gathers_S1000000x128_S128x128) (fd := fd) (default : HIx 1) N hN (by decide) hin) $$ [He Hd Hl Hs]
  · isplitl [He]; · iexact He
    isplitl [Hd]; · iexact Hd
    isplitl [Hl]; · iexact Hl
    iexact Hs
  iintro Hfl
  iapply Hk
  isplitl [Hfl]
  · iapply (Transfers.Flight_mono countersEmb _ (show _ ⊢ Landed d L dst off inb g q qo f e from ?_)) $$ Hfl
    iintro ⟨Hd, He, Hl⟩
    isplitl [Hd]
    · iapply (Entails.of_eq (congrArg (fun h => (dst.view.loc (V d (cV L) (jV L)) ↦[dst.view.set]{fullShare} h : sProp 𝕄))
        (write_all dst.view hset fd _ g (fun y => (hg y).trans (congrArg _ (congrFun (gather_eq j hoff inb f x e w hf hx hin).symm y))))))
      iexact Hd
    isplitl [He]; · iexact He
    iexact Hl
  isplitl [He']; · iexact He'
  iexact Hl'

/-! ## The tile's place, its row of the result and its own resources -/

omit [FloatOps F] in
theorem wid_lt : 2 * (L 1).val + (L 0).val < 32 := by
  have h0 : (L 0).val < 2 := (L 0).isLt
  have h1 : (L 1).val < 16 := (L 1).isLt
  omega
/-- The tile's number: its row of the result and of the indices. -/
abbrev wid : Fin 32 := ⟨2 * (L 1).val + (L 0).val, wid_lt L⟩

abbrev xLoc : Loc nD τ sig := (SparseCore.T d).loc main_v0
abbrev eLoc : Loc nD τ sig := (SparseCore.T d).loc main_arg1
abbrev oLoc : Loc nD τ sig := (SparseCore.T d).loc main_v1

theorem odiv : 32 ∣ S32x128.size 0 := ⟨1, rfl⟩
/-- Row `w` of the result. -/
abbrev orow (w : Fin 32) : Rect S32x128 := Rect.part (s := S32x128) (a₀ := 0) odiv w
abbrev oRowSet (w : Fin 32) : Finset S32x128.Idx := (oV.view.slice (orow w)).set

omit [FloatOps F] in
theorem oset_congr {r r' : Rect S32x128} (h : r = r') : ((oV.view.slice r).set : Finset S32x128.Idx) = (oV.view.slice r').set := by subst h; rfl

abbrev xTileK : Memref sig .scVector .hbm S4x128 .i32 :=
  (xV.slice (Rect.unit (s := S32x4x128) (k0_off1 L) S1x4x128.size (k0_off1_inb L)) (fun _ => rfl)).squeeze S4x128 squeezes_S1x4x128_S4x128
abbrev oRowK : Memref sig .scVector .hbm S128 .f32 :=
  (oV.slice (Rect.unit (s := S32x128) (k0_off34 L) S1x128.size (k0_off34_inb L)) (fun _ => rfl)).squeeze S128 squeezes_S1x128_S128

omit [FloatOps F] in
theorem set_oRowK : (oRowK L).view.set = oRowSet (wid L) := by
  show ((oV.view.slice (Rect.unit (s := S32x128) (k0_off34 L) S1x128.size (k0_off34_inb L))).reshape S128 squeezes_S1x128_S128.numel_eq).set = _
  rw [View.set_reshape]
  have e : Rect.unit (s := S32x128) (k0_off34 L) S1x128.size (k0_off34_inb L) = orow (wid L) := by
    unfold orow Rect.part Rect.block
    congr 1 <;> funext a
    · rw [k0_off34_eq]
      match a with
      | 0 => simp [Shape.partIx, Shape.partSize]
      | 1 => simp [Shape.partIx, Shape.partSize]
    · match a with
      | 0 => simp [Shape.partSize]
      | 1 => simp [Shape.partSize]
  exact oset_congr e

omit [FloatOps F] in
theorem pts_oRowK (f : Buf (Elt F) (oLoc d)) :
    ((oRowK L).view.loc (V d (cV L) (jV L)) ↦[(oRowK L).view.set]{fullShare} f : sProp 𝕄) = oLoc d ↦[oRowSet (wid L)]{fullShare} f := by
  rw [set_oRowK]
omit [FloatOps F] in
theorem pts_xV (q : PosShare TreeShare) (f : Buf (Elt F) (xLoc d)) :
    (xV.view.loc (V d (cV L) (jV L)) ↦{q} f : sProp 𝕄) = xLoc d ↦{q} f := rfl
omit [FloatOps F] in
theorem pts_eV (q : PosShare TreeShare) (f : Buf (Elt F) (eLoc d)) :
    (eV.view.loc (V d (cV L) (jV L)) ↦{q} f : sProp 𝕄) = eLoc d ↦{q} f := rfl
omit [FloatOps F] in
theorem pts_iS (f : Buf (Elt F) ((V d (cV L) (jV L)).loc cc0_scratch0)) :
    (iS.view.loc (V d (cV L) (jV L)) ↦{fullShare} f : sProp 𝕄) = (V d (cV L) (jV L)).loc cc0_scratch0 ↦{fullShare} f := rfl
omit [FloatOps F] in
theorem pts_aS (f : Buf (Elt F) ((V d (cV L) (jV L)).loc cc0_scratch1)) :
    (aS.view.loc (V d (cV L) (jV L)) ↦{fullShare} f : sProp 𝕄) = (V d (cV L) (jV L)).loc cc0_scratch1 ↦{fullShare} f := rfl
omit [FloatOps F] in
theorem pts_bS (f : Buf (Elt F) ((V d (cV L) (jV L)).loc cc0_scratch2)) :
    (bS.view.loc (V d (cV L) (jV L)) ↦{fullShare} f : sProp 𝕄) = (V d (cV L) (jV L)).loc cc0_scratch2 ↦{fullShare} f := rfl
omit [FloatOps F] in
theorem pts_cS (f : Buf (Elt F) ((V d (cV L) (jV L)).loc cc0_scratch3)) :
    (cS.view.loc (V d (cV L) (jV L)) ↦{fullShare} f : sProp 𝕄) = (V d (cV L) (jV L)).loc cc0_scratch3 ↦{fullShare} f := rfl

abbrev gA (c : Fin τ.nSC) (i : Fin τ.nSub) : GSem nD τ sig := (V d c i, .dma cc0_scratch4.sem)
abbrev gB (c : Fin τ.nSC) (i : Fin τ.nSub) : GSem nD τ sig := (V d c i, .dma cc0_scratch5.sem)
abbrev gC (c : Fin τ.nSC) (i : Fin τ.nSub) : GSem nD τ sig := (V d c i, .dma cc0_scoped0.sem)
abbrev gD (c : Fin τ.nSC) (i : Fin τ.nSub) : GSem nD τ sig := (V d c i, .dma cc0_scoped1.sem)

omit [FloatOps F] in
/-- The tile's four semaphores are among its own: they are them, at zero, and the rest. -/
theorem ownSems0_V :
    (ownSems0 (V d (cV L) (jV L)) : sProp 𝕄)
      = iprop(semVal (gA d (cV L) (jV L)) 0 ∗ semVal (gB d (cV L) (jV L)) 0 ∗ semVal (gC d (cV L) (jV L)) 0 ∗ semVal (gD d (cV L) (jV L)) 0
          ∗ bigSep (((((ownCells (V d (cV L) (jV L))).erase (gA d (cV L) (jV L))).erase (gB d (cV L) (jV L))).erase (gC d (cV L) (jV L))).erase (gD d (cV L) (jV L)))
              fun g => semVal g 0) := by
  unfold SparseCore.Cfg.ownSems0
  rw [SparseCore.bigSep_erase' ((mem_ownCells (g := gA d (cV L) (jV L))).mpr ⟨rfl, by
      show (SemLoc.dma cc0_scratch4.sem : SemLoc sig).isScoped .scVector = true; decide⟩),
    SparseCore.bigSep_erase' (Finset.mem_erase.mpr ⟨by simp [gA, gB]; decide, (mem_ownCells (g := gB d (cV L) (jV L))).mpr ⟨rfl, by
      show (SemLoc.dma cc0_scratch5.sem : SemLoc sig).isScoped .scVector = true; decide⟩⟩),
    SparseCore.bigSep_erase' (Finset.mem_erase.mpr ⟨by simp [gB, gC]; decide, Finset.mem_erase.mpr ⟨by simp [gA, gC]; decide,
      (mem_ownCells (g := gC d (cV L) (jV L))).mpr ⟨rfl, by show (SemLoc.dma cc0_scoped0.sem : SemLoc sig).isScoped .scVector = true; decide⟩⟩⟩),
    SparseCore.bigSep_erase' (Finset.mem_erase.mpr ⟨by simp [gC, gD]; decide, Finset.mem_erase.mpr ⟨by simp [gB, gD]; decide, Finset.mem_erase.mpr ⟨by simp [gA, gD]; decide,
      (mem_ownCells (g := gD d (cV L) (jV L))).mpr ⟨rfl, by show (SemLoc.dma cc0_scoped1.sem : SemLoc sig).isScoped .scVector = true; decide⟩⟩⟩⟩)]

abbrev rf (b : Ref sig .scVector) : DevRef τ sig := (Proc.scVector (cV L) (jV L)).devRef b

omit [FloatOps F] in
theorem rf_ne {b b' : Ref sig .scVector} (h : b ≠ b') : rf L b ≠ rf L b' := fun e => absurd (Proc.devRef_injective _ e) h

omit [FloatOps F] in
/-- The four scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (rf L cc0_scratch0)).erase (rf L cc0_scratch1)).erase (rf L cc0_scratch2)).erase (rf L cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := rf L cc0_scratch0) rfl)).trans ?_
  rw [SparseCore.bigSep_erase' (Finset.mem_erase.mpr ⟨rf_ne L (by decide : (cc0_scratch1 : Ref sig .scVector) ≠ cc0_scratch0),
      SparseCore.Cfg.mem_ownRefs_of_owner (p := Proc.scVector (cV L) (jV L)) (b := rf L cc0_scratch1) rfl⟩),
    SparseCore.bigSep_erase' (Finset.mem_erase.mpr ⟨rf_ne L (by decide : (cc0_scratch2 : Ref sig .scVector) ≠ cc0_scratch1),
      Finset.mem_erase.mpr ⟨rf_ne L (by decide : (cc0_scratch2 : Ref sig .scVector) ≠ cc0_scratch0),
      SparseCore.Cfg.mem_ownRefs_of_owner (p := Proc.scVector (cV L) (jV L)) (b := rf L cc0_scratch2) rfl⟩⟩),
    SparseCore.bigSep_erase' (Finset.mem_erase.mpr ⟨rf_ne L (by decide : (cc0_scratch3 : Ref sig .scVector) ≠ cc0_scratch2),
      Finset.mem_erase.mpr ⟨rf_ne L (by decide : (cc0_scratch3 : Ref sig .scVector) ≠ cc0_scratch1),
      Finset.mem_erase.mpr ⟨rf_ne L (by decide : (cc0_scratch3 : Ref sig .scVector) ≠ cc0_scratch0),
      SparseCore.Cfg.mem_ownRefs_of_owner (p := Proc.scVector (cV L) (jV L)) (b := rf L cc0_scratch3) rfl⟩⟩⟩)]

/-! ## The values the tile's transfers move -/

omit [FloatOps F] in
/-- What the fetch of the indices reads: the tile's four rows of 128. -/
theorem read_xTileK (x : S32x4x128.Idx → Elt F .i32) (j : Fin 4) (r : Fin 128) :
    (xTileK L).view.read (Elt F) x (ix2 j r) = x (ix3 (wid L) j r) := by
  refine (View.read_apply _ _).trans ((cast_eq _ _).trans (congrArg x ?_))
  show ((Rect.unit (s := S32x4x128) (k0_off1 L) S1x4x128.size (k0_off1_inb L)).emb (Shape.reshapeEquiv squeezes_S1x4x128_S4x128.numel_eq (ix2 j r))) = _
  rw [show Shape.reshapeEquiv squeezes_S1x4x128_S4x128.numel_eq (ix2 j r) = (ix3 (⟨0, Nat.one_pos⟩ : Fin 1) j r : S1x4x128.Idx) from
    ValueIdx.reshapeEquiv_ix2_1ab _ j r]
  refine funext fun a => Fin.ext ?_
  have h := k0_off1_eq L
  match a with
  | 0 => show k0_off1 L 0 + 1 * 0 = 2 * (L 1).val + (L 0).val; rw [h]; simp
  | 1 => show k0_off1 L 1 + 1 * j.val = j.val; rw [h]; simp
  | 2 => show k0_off1 L 2 + 1 * r.val = r.val; rw [h]; simp

/-- What a tile is handed: a share of the indices, a share of the table, its row of the result. -/
abbrev tileIn (x : Buf (Elt F) (xLoc d)) (e : Buf (Elt F) (eLoc d)) (o : Buf (Elt F) (oLoc d)) (q : PosShare TreeShare) (w : Fin 32) : sProp 𝕄 :=
  iprop((xLoc d ↦{q} x) ∗ (eLoc d ↦{q} e) ∗ oLoc d ↦[oRowSet w]{fullShare} o)

/-- The semaphores' waits the tile recorded beyond `W` are its own. -/
abbrev Own (W W' : Waits sig (HIx 1)) : Prop := ∀ p ∈ W', p ∈ W ∨ p.2 = none

abbrev q0 (q : PosShare TreeShare) : PosShare TreeShare := q.left
abbrev q1 (q : PosShare TreeShare) : PosShare TreeShare := q.right

/-- The number of bytes a gather credits its semaphore with. -/
abbrev cr : ℕ := aS.view.dmaCredit

/-- A gather of chunk `j` in flight on `sem` into `dst`, with what of its shares stays behind. -/
abbrev Going (x : S32x4x128.Idx → Elt F .i32) (e : S1000000x128.Idx → F .f32) (f : S4x128.Idx → Elt F .i32) (dst : Memref sig .scVector .vmem S128x128 .f32)
    (sem : DmaSem sig) (off : Fin 2 → ℕ) (inb : ∀ a, off a + S1x128.size a ≤ S4x128.size a)
    (g : Buf (Elt F) (dst.view.loc (V d (cV L) (jV L)))) (q qo : PosShare TreeShare) : sProp 𝕄 :=
  iprop(Transfers.Flight countersEmb (V d (cV L) (jV L)) (.dma sem) (default : HIx 1) cr (Landed d L dst off inb g q qo f e) ∗ Kept d L off inb q qo f e)

set_option maxHeartbeats 4000000 in
/-- The task's first part: the indices fetched, the gathers of chunks 0 and 1 issued. -/
theorem part1 (x : Buf (Elt F) (xLoc d)) (e : Buf (Elt F) (eLoc d)) (q : PosShare TreeShare)
    (hx : ∀ y : S32x4x128.Idx, (x y : BitVec 32).toNat < 1000000) (O : CellTallies nD τ sig (HIx 1)) (W : Waits sig (HIx 1)) (fi fa fb) :
    iprop(Transfers.MayWaits (V d (cV L) (jV L)) (default : HIx 1) O ∗ (xV.view.loc (V d (cV L) (jV L)) ↦{q} x) ∗ (eV.view.loc (V d (cV L) (jV L)) ↦{q} e)
        ∗ (iS.view.loc (V d (cV L) (jV L)) ↦{fullShare} fi) ∗ (aS.view.loc (V d (cV L) (jV L)) ↦{fullShare} fa) ∗ (bS.view.loc (V d (cV L) (jV L)) ↦{fullShare} fb)
        ∗ semVal (gA d (cV L) (jV L)) 0 ∗ semVal (gB d (cV L) (jV L)) 0 ∗ semVal (gC d (cV L) (jV L)) 0 ∗ owes (V d (cV L) (jV L)) O W)
      ⊢ wp frame (wpE (defs₀ (F := F)) 𝒱₀ (V d (cV L) (jV L)) none) Set.univ
          (k0_part1 L xV (Memref.isWhole_whole _) eV (Memref.isWhole_whole _) oV (Memref.isWhole_whole _) iS (Memref.isWhole_whole _)
            aS (Memref.isWhole_whole _) bS (Memref.isWhole_whole _) cS (Memref.isWhole_whole _) cc0_scratch4 cc0_scratch5 cc0_scoped0 cc0_scoped1)
          fun r => iprop(⌜r = ⟨(regs zeros).1, (regs zeros).2.1, (regs zeros).2.2.1, (regs zeros).2.2.2.1, (regs zeros).2.2.2.2.1, (regs zeros).2.2.2.2.2.1, (regs zeros).2.2.2.2.2.2.1, (regs zeros).2.2.2.2.2.2.2⟩⌝
            ∗ ∃ f : S4x128.Idx → Elt F .i32, ⌜∀ (j : Fin 4) (r : Fin 128), f (ix2 j r) = x (ix3 (wid L) j r)⌝
            ∗ (xV.view.loc (V d (cV L) (jV L)) ↦{q} x)
            ∗ Going d L x e f aS cc0_scratch4.sem ![0, 0] inb_S4x128_S1x128_0_0 (gathered x e (wid L) 0) (q0 q) (q0 fullShare)
            ∗ Going d L x e f bS cc0_scratch5.sem ![1, 0] inb_S4x128_S1x128_1_0 (gathered x e (wid L) 1) (q1 q) (q1 fullShare)
            ∗ semVal (gC d (cV L) (jV L)) 0 ∗ ∃ W', ⌜Own W W'⌝ ∗ owes (V d (cV L) (jV L)) O W') := by
  rw [k0_part1_eq_skeleton]; unfold k0_part1_skel
  iintro ⟨#Hmw, Hx, He, Hi, Ha, Hb, HgA, HgB, HgC, HO⟩
  sl_exec
  have hf : ∀ (j : Fin 4) (r : Fin 128), View.write (Elt F) iS.view fi (part1.sl.dma0 d L x) Finset.univ (ix2 j r) = x (ix3 (wid L) j r) := by
    intro j r
    rw [View.write_whole_univ]
    exact read_xTileK L x j r
  have hfx : ∀ y : S4x128.Idx, (View.write (Elt F) iS.view fi (part1.sl.dma0 d L x) Finset.univ y : BitVec 32).toNat < 1000000 := by
    intro y
    rw [Idealize.ShloMosaic.ValueIdx.eq_ix2 y]
    exact (congrArg BitVec.toNat (hf _ _)).trans_lt (hx _)
  ihave He := (pointsTo_share (PosShare.mem_left_op_right q)).1 $$ He
  icases He with ⟨He0, He1⟩
  ihave Hi := (pointsTo_share (PosShare.mem_left_op_right fullShare)).1 $$ Hi
  icases Hi with ⟨Hi0, Hi1⟩
  ihave Ha := (Entails.of_eq (show (aS.view.loc (V d (cV L) (jV L)) ↦{fullShare} fa : sProp 𝕄)
      = aS.view.loc (V d (cV L) (jV L)) ↦[aS.view.set]{fullShare} fa by rw [show aS.view.set = Finset.univ from View.set_whole _])) $$ Ha
  ihave Hb := (Entails.of_eq (show (bS.view.loc (V d (cV L) (jV L)) ↦{fullShare} fb : sProp 𝕄)
      = bS.view.loc (V d (cV L) (jV L)) ↦[bS.view.set]{fullShare} fb by rw [show bS.view.set = Finset.univ from View.set_whole _])) $$ Hb
  iapply (gather_issue d L aS (View.set_whole _)
    (off := ![0, 0]) 0 rfl inb_S4x128_S1x128_0_0 cc0_scratch4.sem cr (by decide) _ x e (wid L) hf hx hfx (q0 q) (q0 fullShare) fa (gathered x e (wid L) 0) (fun _ => rfl)) $$ [He0 Ha Hi0 HgA]
  · isplitl [He0]; · iexact He0
    isplitl [Ha]; · iexact Ha
    isplitl [Hi0]; · iexact Hi0
    iexact HgA
  iintro HA
  sl_exec
  iapply (gather_issue d L bS (View.set_whole _)
    (off := ![1, 0]) 1 rfl inb_S4x128_S1x128_1_0 cc0_scratch5.sem cr (by decide) _ x e (wid L) hf hx hfx (q1 q) (q1 fullShare) fb (gathered x e (wid L) 1) (fun _ => rfl)) $$ [He1 Hb Hi1 HgB]
  · isplitl [He1]; · iexact He1
    isplitl [Hb]; · iexact Hb
    isplitl [Hi1]; · iexact Hi1
    iexact HgB
  iintro HB
  sl_exec
  sl_step
  isplitr; · ipureintro; rfl
  iexists _; isplitr; · ipureintro; exact hf
  isplitl [Hx]; · iexact Hx
  isplitl [HA]; · iexact HA
  isplitl [HB]; · iexact HB
  isplitl [HgC]; · iexact HgC
  iexists _; isplitr
  swap; · iexact HO
  ipureintro; intro p hp
  rcases Finset.mem_insert.mp hp with hp | hp; · exact .inr (hp ▸ rfl)
  exact .inl hp

/-- The eight registers, as the parts of the task hand them on. -/
abbrev sig8 (t : FVec F S16 .f32 × FVec F S16 .f32 × FVec F S16 .f32 × FVec F S16 .f32 × FVec F S16 .f32 × FVec F S16 .f32 × FVec F S16 .f32 × FVec F S16 .f32) :
    Σ' (_ : FVec F S16 .f32) (_ : FVec F S16 .f32) (_ : FVec F S16 .f32) (_ : FVec F S16 .f32) (_ : FVec F S16 .f32) (_ : FVec F S16 .f32) (_ : FVec F S16 .f32), FVec F S16 .f32 :=
  ⟨t.1, t.2.1, t.2.2.1, t.2.2.2.1, t.2.2.2.2.1, t.2.2.2.2.2.1, t.2.2.2.2.2.2.1, t.2.2.2.2.2.2.2⟩

/-- A block in a buffer, and the running sums of its first `k` rows on top of `A`. -/
abbrev Summing (dst : Memref sig .scVector .vmem S128x128 .f32) (gb : Buf (Elt F) (dst.view.loc (V d (cV L) (jV L)))) (g : S128x128.Idx → F .f32) (A : ℕ → F .f32) (k : ℕ)
    (acc : FVec F S16 .f32 × FVec F S16 .f32 × FVec F S16 .f32 × FVec F S16 .f32 × FVec F S16 .f32 × FVec F S16 .f32 × FVec F S16 .f32 × FVec F S16 .f32) : sProp 𝕄 :=
  iprop((dst.view.loc (V d (cV L) (jV L)) ↦{fullShare} gb) ∗ ⌜acc = regs (addRows g k A)⌝)

set_option maxHeartbeats 4000000 in
/-- The task's second part: chunk 0 awaited and summed, the gather of chunk 2 issued, chunk 1 awaited and summed, the
    gather of chunk 3 issued, chunk 2 awaited and summed. -/
theorem part2 (x : Buf (Elt F) (xLoc d)) (e : Buf (Elt F) (eLoc d)) (q : PosShare TreeShare)
    (hx : ∀ y : S32x4x128.Idx, (x y : BitVec 32).toNat < 1000000) (O : CellTallies nD τ sig (HIx 1)) (W : Waits sig (HIx 1))
    (f : S4x128.Idx → Elt F .i32) (hf : ∀ (j : Fin 4) (r : Fin 128), f (ix2 j r) = x (ix3 (wid L) j r)) (A : ℕ → F .f32) :
    iprop(Transfers.MayWaits (V d (cV L) (jV L)) (default : HIx 1) O
        ∗ Going d L x e f aS cc0_scratch4.sem ![0, 0] inb_S4x128_S1x128_0_0 (gathered x e (wid L) 0) (q0 q) (q0 fullShare)
        ∗ Going d L x e f bS cc0_scratch5.sem ![1, 0] inb_S4x128_S1x128_1_0 (gathered x e (wid L) 1) (q1 q) (q1 fullShare)
        ∗ owes (V d (cV L) (jV L)) O W)
      ⊢ wp frame (wpE (defs₀ (F := F)) 𝒱₀ (V d (cV L) (jV L)) none) Set.univ
          (k0_part2 L xV (Memref.isWhole_whole _) eV (Memref.isWhole_whole _) oV (Memref.isWhole_whole _) iS (Memref.isWhole_whole _)
            aS (Memref.isWhole_whole _) bS (Memref.isWhole_whole _) cS (Memref.isWhole_whole _) cc0_scratch4 cc0_scratch5 cc0_scoped0 cc0_scoped1
            (regs A).1 (regs A).2.1 (regs A).2.2.1 (regs A).2.2.2.1 (regs A).2.2.2.2.1 (regs A).2.2.2.2.2.1 (regs A).2.2.2.2.2.2.1 (regs A).2.2.2.2.2.2.2)
          fun r => iprop(⌜r = sig8 (regs (addRows (gathered x e (wid L) 2) 128 (addRows (gathered x e (wid L) 1) 128 (addRows (gathered x e (wid L) 0) 128 A))))⌝
            ∗ (eV.view.loc (V d (cV L) (jV L)) ↦{q0 q} e) ∗ (iS.view.loc (V d (cV L) (jV L)) ↦{q0 fullShare} f)
            ∗ (∃ fa, aS.view.loc (V d (cV L) (jV L)) ↦{fullShare} fa) ∗ semVal (gA d (cV L) (jV L)) 0
            ∗ Going d L x e f bS cc0_scratch5.sem ![3, 0] inb_S4x128_S1x128_3_0 (gathered x e (wid L) 3) (q1 q) (q1 fullShare)
            ∗ ∃ W', ⌜Own W W'⌝ ∗ owes (V d (cV L) (jV L)) O W') := by
  have hfx : ∀ y : S4x128.Idx, (f y : BitVec 32).toNat < 1000000 := by
    intro y
    rw [Idealize.ShloMosaic.ValueIdx.eq_ix2 y]
    exact (congrArg BitVec.toNat (hf _ _)).trans_lt (hx _)
  rw [k0_part2_eq_skeleton]; unfold k0_part2_skel
  iintro ⟨#Hmw, ⟨HA, HAk⟩, ⟨HB, HBk⟩, HO⟩
  sl_exec
  iapply (Transfers.wp_waitLocalO countersEmb 𝒱₀ (V d (cV L) (jV L)) none (default : HIx 1) (rfl : aS.view.dmaCredit = _)) $$ [HA HO]
  · isplitl [HA]; · iexact HA
    isplitl [HO]; · iexact HO
    iapply (Transfers.MayWaits.elim (SemLoc.dma cc0_scratch4.sem)) $$ Hmw
  iintro ⟨HA, HgA, HO⟩
  ihave HA := (landed_join d L aS ![0, 0] inb_S4x128_S1x128_0_0 (gathered x e (wid L) 0) (q0 q) (q0 fullShare) f e) $$ [HA HAk]
  · isplitl [HA] <;> iassumption
  icases HA with ⟨Ha, He0, Hi0⟩
  ihave Ha := (Entails.of_eq (show (aS.view.loc (V d (cV L) (jV L)) ↦[aS.view.set]{fullShare} (gathered x e (wid L) 0) : sProp 𝕄)
      = aS.view.loc (V d (cV L) (jV L)) ↦{fullShare} (gathered x e (wid L) 0) by rw [show aS.view.set = Finset.univ from View.set_whole _])) $$ Ha
  sl_exec
  sl_for (Summing d L aS (gathered x e (wid L) 0) (gathered x e (wid L) 0) A) $$ [Ha]
  case region =>
    intro k acc
    iintro ⟨Ha, %hacc⟩
    subst hacc
    iapply (trip1 d L _ _ _ _ _ _ _ _ (gathered x e (wid L) 0) A k) $$ Ha
  · isplitl [Ha]; · iexact Ha
    ipureintro; rfl
  iintro %acc HI
  icases HI with ⟨Ha, %hacc1⟩
  obtain ⟨u0, u1, u2, u3, u4, u5, u6, u7⟩ := acc
  sl_exec
  ihave Ha := (Entails.of_eq (show (aS.view.loc (V d (cV L) (jV L)) ↦{fullShare} (gathered x e (wid L) 0) : sProp 𝕄)
      = aS.view.loc (V d (cV L) (jV L)) ↦[aS.view.set]{fullShare} (gathered x e (wid L) 0) by rw [show aS.view.set = Finset.univ from View.set_whole _])) $$ Ha
  iapply (gather_issue d L aS (View.set_whole _) (off := ![2, 0]) 2 rfl inb_S4x128_S1x128_2_0 cc0_scratch4.sem cr (by decide) f x e (wid L) hf hx hfx (q0 q) (q0 fullShare)
    (gathered x e (wid L) 0) (gathered x e (wid L) 2) (fun _ => rfl)) $$ [He0 Ha Hi0 HgA]
  · isplitl [He0]; · iexact He0
    isplitl [Ha]; · iexact Ha
    isplitl [Hi0]; · iexact Hi0
    iexact HgA
  iintro ⟨HA, HAk⟩
  sl_exec
  iapply (Transfers.wp_waitLocalO countersEmb 𝒱₀ (V d (cV L) (jV L)) none (default : HIx 1) (rfl : bS.view.dmaCredit = _)) $$ [HB HO]
  · isplitl [HB]; · iexact HB
    isplitl [HO]; · iexact HO
    iapply (Transfers.MayWaits.elim (SemLoc.dma cc0_scratch5.sem)) $$ Hmw
  iintro ⟨HB, HgB, HO⟩
  ihave HB := (landed_join d L bS ![1, 0] inb_S4x128_S1x128_1_0 (gathered x e (wid L) 1) (q1 q) (q1 fullShare) f e) $$ [HB HBk]
  · isplitl [HB] <;> iassumption
  icases HB with ⟨Hb, He1, Hi1⟩
  ihave Hb := (Entails.of_eq (show (bS.view.loc (V d (cV L) (jV L)) ↦[bS.view.set]{fullShare} (gathered x e (wid L) 1) : sProp 𝕄)
      = bS.view.loc (V d (cV L) (jV L)) ↦{fullShare} (gathered x e (wid L) 1) by rw [show bS.view.set = Finset.univ from View.set_whole _])) $$ Hb
  sl_exec
  sl_for (Summing d L bS (gathered x e (wid L) 1) (gathered x e (wid L) 1) (addRows (gathered x e (wid L) 0) 128 A)) $$ [Hb]
  case region =>
    intro k acc
    iintro ⟨Hb, %hacc⟩
    subst hacc
    iapply (trip2 d L _ _ _ _ _ _ _ _ (gathered x e (wid L) 1) (addRows (gathered x e (wid L) 0) 128 A) k) $$ Hb
  · isplitl [Hb]; · iexact Hb
    ipureintro; exact regs_start hacc1 rfl
  iintro %acc HI
  icases HI with ⟨Hb, %hacc2⟩
  obtain ⟨u0, u1, u2, u3, u4, u5, u6, u7⟩ := acc
  sl_exec
  ihave Hb := (Entails.of_eq (show (bS.view.loc (V d (cV L) (jV L)) ↦{fullShare} (gathered x e (wid L) 1) : sProp 𝕄)
      = bS.view.loc (V d (cV L) (jV L)) ↦[bS.view.set]{fullShare} (gathered x e (wid L) 1) by rw [show bS.view.set = Finset.univ from View.set_whole _])) $$ Hb
  iapply (gather_issue d L bS (View.set_whole _) (off := ![3, 0]) 3 rfl inb_S4x128_S1x128_3_0 cc0_scratch5.sem cr (by decide) f x e (wid L) hf hx hfx (q1 q) (q1 fullShare)
    (gathered x e (wid L) 1) (gathered x e (wid L) 3) (fun _ => rfl)) $$ [He1 Hb Hi1 HgB]
  · isplitl [He1]; · iexact He1
    isplitl [Hb]; · iexact Hb
    isplitl [Hi1]; · iexact Hi1
    iexact HgB
  iintro ⟨HB, HBk⟩
  sl_exec
  iapply (Transfers.wp_waitLocalO countersEmb 𝒱₀ (V d (cV L) (jV L)) none (default : HIx 1) (rfl : aS.view.dmaCredit = _)) $$ [HA HO]
  · isplitl [HA]; · iexact HA
    isplitl [HO]; · iexact HO
    iapply (Transfers.MayWaits.elim (SemLoc.dma cc0_scratch4.sem)) $$ Hmw
  iintro ⟨HA, HgA, HO⟩
  ihave HA := (landed_join d L aS ![2, 0] inb_S4x128_S1x128_2_0 (gathered x e (wid L) 2) (q0 q) (q0 fullShare) f e) $$ [HA HAk]
  · isplitl [HA] <;> iassumption
  icases HA with ⟨Ha, He0, Hi0⟩
  ihave Ha := (Entails.of_eq (show (aS.view.loc (V d (cV L) (jV L)) ↦[aS.view.set]{fullShare} (gathered x e (wid L) 2) : sProp 𝕄)
      = aS.view.loc (V d (cV L) (jV L)) ↦{fullShare} (gathered x e (wid L) 2) by rw [show aS.view.set = Finset.univ from View.set_whole _])) $$ Ha
  sl_exec
  sl_for (Summing d L aS (gathered x e (wid L) 2) (gathered x e (wid L) 2) (addRows (gathered x e (wid L) 1) 128 (addRows (gathered x e (wid L) 0) 128 A))) $$ [Ha]
  case region =>
    intro k acc
    iintro ⟨Ha, %hacc⟩
    subst hacc
    iapply (trip3 d L _ _ _ _ _ _ _ _ (gathered x e (wid L) 2) (addRows (gathered x e (wid L) 1) 128 (addRows (gathered x e (wid L) 0) 128 A)) k) $$ Ha
  · isplitl [Ha]; · iexact Ha
    ipureintro; exact regs_start hacc2 rfl
  iintro %acc HI
  icases HI with ⟨Ha, %hacc3⟩
  obtain ⟨u0, u1, u2, u3, u4, u5, u6, u7⟩ := acc
  sl_exec
  sl_step
  isplitr; · ipureintro; exact congrArg sig8 (regs_done hacc3 rfl)
  isplitl [He0]; · iexact He0
  isplitl [Hi0]; · iexact Hi0
  isplitl [Ha]; · iexists _; iexact Ha
  isplitl [HgA]; · iexact HgA
  isplitl [HB HBk]
  · isplitl [HB]; · iexact HB
    iexact HBk
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

theorem exists_here {α : Type*} {a : α} {l : List α} {P : α → Prop} (h : P a) : ∃ p ∈ a :: l, P p := ⟨a, List.mem_cons_self, h⟩
theorem exists_there {α : Type*} {a : α} {l : List α} {P : α → Prop} (h : ∃ p ∈ l, P p) : ∃ p ∈ a :: l, P p :=
  let ⟨p, hp, h⟩ := h; ⟨p, List.mem_cons_of_mem _ hp, h⟩

omit [FloatOps F] in
/-- Sixteen consecutive sums, stored from `o` on: element `x` of the piece is the sum at its place. -/
theorem piece_at (B : ℕ → F .f32) (o : ℕ) (inb : ∀ a, (![o] : Fin 1 → ℕ) a + S16.size a ≤ S128.size a) (u : FVec F S16 .f32) (h : ∀ x : S16.Idx, u x = B (o + (x 0).val))
    (x : S16.Idx) : u x = B (((Rect.unit (s := S128) ![o] S16.size inb).emb x : S128.Idx) 0).val :=
  (h x).trans (congrArg B (show o + (x 0).val = o + 1 * (x 0).val by omega))

/-- The eight stores of sixteen sums leave the 128 sums in the scratch row. -/
theorem sums_stored (B : ℕ → F .f32) (fc : S128.Idx → Elt F .f32) (u0 u1 u2 u3 u4 u5 u6 u7 : FVec F S16 .f32)
    (h : (u0, u1, u2, u3, u4, u5, u6, u7) = regs B) (y : S128.Idx) :
    cS.view.read (Elt F) (cS.view.writes (Elt F) fc
      [⟨Rect.unit ![112] S16.size inb_S128_S16_112, k0_pay48 u7⟩, ⟨Rect.unit ![96] S16.size inb_S128_S16_96, k0_pay47 u6⟩,
        ⟨Rect.unit ![80] S16.size inb_S128_S16_80, k0_pay46 u5⟩, ⟨Rect.unit ![64] S16.size inb_S128_S16_64, k0_pay45 u4⟩,
        ⟨Rect.unit ![48] S16.size inb_S128_S16_48, k0_pay44 u3⟩, ⟨Rect.unit ![32] S16.size inb_S128_S16_32, k0_pay43 u2⟩,
        ⟨Rect.unit ![16] S16.size inb_S128_S16_16, k0_pay42 u1⟩, ⟨Rect.unit ![0] S16.size inb_S128_S16_0, k0_pay41 u0⟩]) y = B (y 0).val := by
  obtain ⟨h0, h1, h2, h3, h4, h5, h6, h7⟩ : u0 = (regs B).1 ∧ u1 = (regs B).2.1 ∧ u2 = (regs B).2.2.1 ∧ u3 = (regs B).2.2.2.1 ∧ u4 = (regs B).2.2.2.2.1
      ∧ u5 = (regs B).2.2.2.2.2.1 ∧ u6 = (regs B).2.2.2.2.2.2.1 ∧ u7 = (regs B).2.2.2.2.2.2.2 := by
    rw [← h]; exact ⟨rfl, rfl, rfl, rfl, rfl, rfl, rfl, rfl⟩
  subst h0 h1 h2 h3 h4 h5 h6 h7
  simp only [k0_pay41, k0_pay42, k0_pay43, k0_pay44, k0_pay45, k0_pay46, k0_pay47, k0_pay48, shapeCast_self]
  refine View.read_writes_apply_of_pieces (v := cS.view) (f := fc) (fun y : S128.Idx => (B (y 0).val : Elt F .f32)) _ ?_ y ?_
  · refine List.forall_mem_cons.mpr ⟨piece_at B 112 inb_S128_S16_112 _ fun _ => rfl, List.forall_mem_cons.mpr ⟨piece_at B 96 inb_S128_S16_96 _ fun _ => rfl,
      List.forall_mem_cons.mpr ⟨piece_at B 80 inb_S128_S16_80 _ fun _ => rfl, List.forall_mem_cons.mpr ⟨piece_at B 64 inb_S128_S16_64 _ fun _ => rfl,
      List.forall_mem_cons.mpr ⟨piece_at B 48 inb_S128_S16_48 _ fun _ => rfl, List.forall_mem_cons.mpr ⟨piece_at B 32 inb_S128_S16_32 _ fun _ => rfl,
      List.forall_mem_cons.mpr ⟨piece_at B 16 inb_S128_S16_16 _ fun _ => rfl, List.forall_mem_cons.mpr ⟨piece_at B 0 inb_S128_S16_0 _ fun x => ?_, fun p hp => absurd hp List.not_mem_nil⟩⟩⟩⟩⟩⟩⟩⟩
    exact congrArg B (Nat.zero_add _).symm
  · have hy : (y 0).val < 128 := (y 0).isLt
    have key : ∀ (o : ℕ) (inb : ∀ a, (![o] : Fin 1 → ℕ) a + S16.size a ≤ S128.size a), o ≤ (y 0).val → (y 0).val < o + 16 →
        y ∈ (Rect.unit (s := S128) ![o] S16.size inb).set := by
      intro o inb h1 h2
      refine Rect.mem_set_unit.mpr fun a => ?_
      match a with
      | 0 => exact ⟨h1, h2⟩
    rcases Nat.lt_or_ge (y 0).val 64 with h | h
    · rcases Nat.lt_or_ge (y 0).val 32 with h | h
      · rcases Nat.lt_or_ge (y 0).val 16 with h' | h'
        · exact exists_there (exists_there (exists_there (exists_there (exists_there (exists_there (exists_there (exists_here (key 0 inb_S128_S16_0 (by omega) (by omega)))))))))
        · exact exists_there (exists_there (exists_there (exists_there (exists_there (exists_there (exists_here (key 16 inb_S128_S16_16 (by omega) (by omega))))))))
      · rcases Nat.lt_or_ge (y 0).val 48 with h' | h'
        · exact exists_there (exists_there (exists_there (exists_there (exists_there (exists_here (key 32 inb_S128_S16_32 (by omega) (by omega)))))))
        · exact exists_there (exists_there (exists_there (exists_there (exists_here (key 48 inb_S128_S16_48 (by omega) (by omega))))))
    · rcases Nat.lt_or_ge (y 0).val 96 with h | h
      · rcases Nat.lt_or_ge (y 0).val 80 with h' | h'
        · exact exists_there (exists_there (exists_there (exists_here (key 64 inb_S128_S16_64 (by omega) (by omega)))))
        · exact exists_there (exists_there (exists_here (key 80 inb_S128_S16_80 (by omega) (by omega))))
      · rcases Nat.lt_or_ge (y 0).val 112 with h' | h'
        · exact exists_there (exists_here (key 96 inb_S128_S16_96 (by omega) (by omega)))
        · exact exists_here (key 112 inb_S128_S16_112 (by omega) (by omega))

omit [FloatOps F] in
/-- The tile's row of the result after its 128 sums were sent to it. -/
theorem row_written (o : S32x128.Idx → F .f32) (w : S128.Idx → F .f32) (B : ℕ → F .f32) (hw : ∀ y : S128.Idx, w y = B (y 0).val) :
    ∀ i ∈ (oRowK L).view.set, (oRowK L).view.writes (Elt F) o [⟨Rect.whole S128, w⟩] i = (fun y : S32x128.Idx => B (y 1).val : S32x128.Idx → F .f32) i := by
  intro i hi
  obtain ⟨y, -, rfl⟩ := Finset.mem_map.mp hi
  have hG : ∀ p ∈ ([⟨Rect.whole S128, w⟩] : List (View.Piece (Elt F) S128 .f32)), ∀ x : p.1.shape.Idx, p.2 x = (fun y : S128.Idx => (B (y 0).val : Elt F .f32)) (p.1.emb x) := by
    refine List.forall_mem_cons.mpr ⟨fun x => (hw x).trans (congrArg B ?_), fun p hp => absurd hp List.not_mem_nil⟩
    show (x 0).val = 0 + 1 * (x 0).val
    omega
  have hc : ∃ p ∈ ([⟨Rect.whole S128, w⟩] : List (View.Piece (Elt F) S128 .f32)), y ∈ p.1.set :=
    exists_here (show y ∈ (Rect.whole S128).set by rw [Rect.set_whole]; exact Finset.mem_univ y)
  have h := View.read_writes_apply_of_pieces (v := (oRowK L).view) (f := o) (fun y : S128.Idx => (B (y 0).val : Elt F .f32)) _ hG y hc
  rw [View.read_apply] at h
  refine ((cast_eq _ _).symm.trans h).trans (congrArg B ?_)
  show (y 0).val = ((Rect.unit (s := S32x128) (k0_off34 L) S1x128.size (k0_off34_inb L)).emb (Shape.reshapeEquiv squeezes_S1x128_S128.numel_eq y) 1).val
  rw [show Shape.reshapeEquiv squeezes_S1x128_S128.numel_eq y = (ix2 (0 : Fin 1) (y 0 : Fin 128) : S1x128.Idx) from
    Shape.reshapeEquiv_eq_of_rowMajor _ ((Shape.rowMajor_val_two _).trans (.trans (show 0 * 128 + (y 0).val = (y 0).val by omega) (Shape.rowMajor_val_one _).symm))]
  show (y 0).val = k0_off34 L 1 + 1 * (y 0).val
  rw [k0_off34_eq]
  show (y 0).val = 0 + 1 * (y 0).val
  omega

set_option maxHeartbeats 4000000 in
/-- The task's third part: chunk 3 awaited and summed, the sums stored and sent to the tile's row of the result. -/
theorem part3 (x : Buf (Elt F) (xLoc d)) (e : Buf (Elt F) (eLoc d)) (o : Buf (Elt F) (oLoc d)) (q : PosShare TreeShare) (O : CellTallies nD τ sig (HIx 1)) (W : Waits sig (HIx 1))
    (f : S4x128.Idx → Elt F .i32) (A : ℕ → F .f32) (fc) :
    iprop(Transfers.MayWaits (V d (cV L) (jV L)) (default : HIx 1) O
        ∗ Going d L x e f bS cc0_scratch5.sem ![3, 0] inb_S4x128_S1x128_3_0 (gathered x e (wid L) 3) (q1 q) (q1 fullShare)
        ∗ (cS.view.loc (V d (cV L) (jV L)) ↦{fullShare} fc)
        ∗ ((oRowK L).view.loc (V d (cV L) (jV L)) ↦[(oRowK L).view.set]{fullShare} o)
        ∗ semVal (gD d (cV L) (jV L)) 0 ∗ owes (V d (cV L) (jV L)) O W)
      ⊢ wp frame (wpE (defs₀ (F := F)) 𝒱₀ (V d (cV L) (jV L)) none) Set.univ
          (do
            k0_part3 L xV (Memref.isWhole_whole _) eV (Memref.isWhole_whole _) oV (Memref.isWhole_whole _) iS (Memref.isWhole_whole _) aS (Memref.isWhole_whole _) bS (Memref.isWhole_whole _) cS (Memref.isWhole_whole _) cc0_scratch4 cc0_scratch5 cc0_scoped0 cc0_scoped1 (regs A).1 (regs A).2.1 (regs A).2.2.1 (regs A).2.2.2.1 (regs A).2.2.2.2.1 (regs A).2.2.2.2.2.1 (regs A).2.2.2.2.2.2.1 (regs A).2.2.2.2.2.2.2
            Prog.lift (.waitDma2 cc0_scoped1.sem cS (oRowK L) (Memref.isWhole_whole _).wordExact ((View.wordExact_bits rfl).reshape _ _))
            pure PUnit.unit)
          fun _ => iprop((eV.view.loc (V d (cV L) (jV L)) ↦{q1 q} e) ∗ (iS.view.loc (V d (cV L) (jV L)) ↦{q1 fullShare} f)
            ∗ (∃ fb, bS.view.loc (V d (cV L) (jV L)) ↦{fullShare} fb) ∗ semVal (gB d (cV L) (jV L)) 0
            ∗ (∃ fc, cS.view.loc (V d (cV L) (jV L)) ↦{fullShare} fc) ∗ semVal (gD d (cV L) (jV L)) 0
            ∗ ((oRowK L).view.loc (V d (cV L) (jV L)) ↦[(oRowK L).view.set]{fullShare} (fun y : S32x128.Idx => addRows (gathered x e (wid L) 3) 128 A (y 1).val : S32x128.Idx → F .f32))
            ∗ ∃ W', ⌜Own W W'⌝ ∗ owes (V d (cV L) (jV L)) O W') := by
  rw [k0_part3_eq_skeleton, wp_bind]; unfold k0_part3_skel
  iintro ⟨#Hmw, ⟨HB, HBk⟩, Hc, Ho, HgD, HO⟩
  sl_exec
  iapply (Transfers.wp_waitLocalO countersEmb 𝒱₀ (V d (cV L) (jV L)) none (default : HIx 1) (rfl : bS.view.dmaCredit = _)) $$ [HB HO]
  · isplitl [HB]; · iexact HB
    isplitl [HO]; · iexact HO
    iapply (Transfers.MayWaits.elim (SemLoc.dma cc0_scratch5.sem)) $$ Hmw
  iintro ⟨HB, HgB, HO⟩
  ihave HB := (landed_join d L bS ![3, 0] inb_S4x128_S1x128_3_0 (gathered x e (wid L) 3) (q1 q) (q1 fullShare) f e) $$ [HB HBk]
  · isplitl [HB] <;> iassumption
  icases HB with ⟨Hb, He1, Hi1⟩
  ihave Hb := (Entails.of_eq (show (bS.view.loc (V d (cV L) (jV L)) ↦[bS.view.set]{fullShare} (gathered x e (wid L) 3) : sProp 𝕄)
      = bS.view.loc (V d (cV L) (jV L)) ↦{fullShare} (gathered x e (wid L) 3) by rw [show bS.view.set = Finset.univ from View.set_whole _])) $$ Hb
  sl_exec
  sl_for (Summing d L bS (gathered x e (wid L) 3) (gathered x e (wid L) 3) A) $$ [Hb]
  case region =>
    intro k acc
    iintro ⟨Hb, %hacc⟩
    subst hacc
    iapply (trip4 d L _ _ _ _ _ _ _ _ (gathered x e (wid L) 3) A k) $$ Hb
  · isplitl [Hb]; · iexact Hb
    ipureintro; rfl
  iintro %acc HI
  icases HI with ⟨Hb, %hacc4⟩
  have hacc := regs_done hacc4 rfl
  obtain ⟨u0, u1, u2, u3, u4, u5, u6, u7⟩ := acc
  sl_exec
  have hw : ∀ y : S128.Idx, part3.sl.dma16 d L fc u0 u1 u2 u3 u4 u5 u6 u7 y = addRows (gathered x e (wid L) 3) 128 A (y 0).val :=
    fun y => sums_stored _ fc u0 u1 u2 u3 u4 u5 u6 u7 hacc y
  ihave Ho := (Entails.of_eq (pointsTo_congr (row_written L o _ _ hw))) $$ Ho
  sl_step
  isplitl [He1]; · iexact He1
  isplitl [Hi1]; · iexact Hi1
  isplitl [Hb]; · iexists _; iexact Hb
  isplitl [HgB]; · iexact HgB
  isplitl [Hc]; · iexists _; iexact Hc
  isplitl [HgD]; · iexact HgD
  isplitl [Ho]; · iexact Ho
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

/-- The row of the result that tile `w` writes: on it, the 128 sums are the pooled result. -/
theorem row_sums (x : S32x4x128.Idx → Elt F .i32) (e : S1000000x128.Idx → F .f32) (w : Fin 32) :
    ∀ i ∈ oRowSet w, (fun y : S32x128.Idx => addRows (gathered x e w 3) 128 (addRows (gathered x e w 2) 128 (addRows (gathered x e w 1) 128
      (addRows (gathered x e w 0) 128 zeros))) (y 1).val : S32x128.Idx → F .f32) i = poolOut x e i := by
  intro i hi
  have hw : (i 0 : Fin 32) = w := by
    obtain ⟨y, -, rfl⟩ := Finset.mem_map.mp hi
    have hy : (y 0).val < 1 := (y 0).isLt
    refine Fin.ext ?_
    show (orow w).off 0 + (orow w).stride 0 * (y 0).val = w.val
    have h0 : (orow w).off 0 = w.val := by simp [orow, Rect.part, Rect.block, Shape.partIx, Shape.partSize]
    rw [h0, Nat.lt_one_iff.mp hy, Nat.mul_zero, Nat.add_zero]
  subst hw
  rfl

set_option maxHeartbeats 4000000 in
/-- The task on vector subcore `(L 0, L 1)` of device `d`: the tile's row of the result ends at the sums of the table's
    rows that the tile's 512 indices name. -/
theorem tile_body (hF : (K (F := F)).Facts) (x : Buf (Elt F) (xLoc d)) (e : Buf (Elt F) (eLoc d)) (o : Buf (Elt F) (oLoc d)) (q : PosShare TreeShare)
    (hx : ∀ y : S32x4x128.Idx, (x y : BitVec 32).toNat < 1000000) (O : CellTallies nD τ sig (HIx 1)) (W : Waits sig (HIx 1)) (hO : ∀ g, O g none = 0) :
    iprop(levAts (K (F := F)).L (K (F := F)).lev ∗ emp ∗ tileIn d x e o q (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) eV (Memref.isWhole_whole _) oV (Memref.isWhole_whole _) iS (Memref.isWhole_whole _)
            aS (Memref.isWhole_whole _) bS (Memref.isWhole_whole _) cS (Memref.isWhole_whole _) cc0_scratch4 cc0_scratch5 cc0_scoped0 cc0_scoped1)
          fun _ => iprop(tileIn d x e (poolOut x e) q (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hx, He, Ho⟩, ⟨⟨%fi, Hi⟩, ⟨%fa, Ha⟩, ⟨%fb, Hb⟩, ⟨%fc, Hc⟩, Hbufs⟩, ⟨HgA, HgB, HgC, HgD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx := (Entails.of_eq (pts_xV (F := F) d L _ _).symm) $$ Hx
  ihave He := (Entails.of_eq (pts_eV (F := F) d L _ _).symm) $$ He
  ihave Ho := (Entails.of_eq (pts_oRowK (F := F) d L _).symm) $$ Ho
  ihave Hi := (Entails.of_eq (pts_iS (F := F) d L _).symm) $$ Hi
  ihave Ha := (Entails.of_eq (pts_aS (F := F) d L _).symm) $$ Ha
  ihave Hb := (Entails.of_eq (pts_bS (F := F) d L _).symm) $$ Hb
  ihave Hc := (Entails.of_eq (pts_cS (F := F) d L _).symm) $$ Hc
  rw [wp_bind]
  ihave H1 := (part1 d L x e q hx O W fi fa fb) $$ [Hmw Hx He Hi Ha Hb HgA HgB HgC HO]
  · isplitl [Hmw]; · iexact Hmw
    isplitl [Hx]; · iexact Hx
    isplitl [He]; · iexact He
    isplitl [Hi]; · iexact Hi
    isplitl [Ha]; · iexact Ha
    isplitl [Hb]; · iexact Hb
    isplitl [HgA]; · iexact HgA
    isplitl [HgB]; · iexact HgB
    isplitl [HgC]; · iexact HgC
    iexact HO
  iapply (wp_wand) $$ H1
  iintro %r1 ⟨%hr1, %f, %hf, Hx, HA, HB, HgC, %W1, %hW1, HO⟩
  subst hr1
  dsimp only
  rw [wp_bind]
  ihave H2 := (part2 d L x e q hx O W1 f hf zeros) $$ [Hmw HA HB HO]
  · isplitl [Hmw]; · iexact Hmw
    isplitl [HA]; · iexact HA
    isplitl [HB]; · iexact HB
    iexact HO
  iapply (wp_wand) $$ H2
  iintro %r2 ⟨%hr2, He0, Hi0, Ha, HgA, HB, %W2, %hW2, HO⟩
  subst hr2
  dsimp only
  ihave H3 := (part3 d L x e o q O W2 f (addRows (gathered x e (wid L) 2) 128 (addRows (gathered x e (wid L) 1) 128 (addRows (gathered x e (wid L) 0) 128 zeros))) fc) $$ [Hmw HB Hc Ho HgD HO]
  · isplitl [Hmw]; · iexact Hmw
    isplitl [HB]; · iexact HB
    isplitl [Hc]; · iexact Hc
    isplitl [Ho]; · iexact Ho
    isplitl [HgD]; · iexact HgD
    iexact HO
  iapply (wp_wand) $$ H3
  iintro %r3 ⟨He1, Hi1, Hb, HgB, Hc, HgD, Ho, %W3, %hW3, HO⟩
  ihave He := (pointsTo_share (PosShare.mem_left_op_right q)).2 $$ [He0 He1]
  · isplitl [He0] <;> iassumption
  ihave Hi := (pointsTo_share (PosShare.mem_left_op_right fullShare)).2 $$ [Hi0 Hi1]
  · isplitl [Hi0] <;> iassumption
  ihave Ho := (Entails.of_eq (pts_oRowK (F := F) d L _)) $$ Ho
  ihave Ho := (Entails.of_eq (pointsTo_congr (row_sums x e (wid L)))) $$ Ho
  isplitl [Hx He Ho]
  · isplitl [Hx]; · iexact Hx
    isplitl [He]; · iexact He
    iexact Ho
  isplitl [Hi Ha Hb Hc Hbufs]
  · isplitl [Hi]; · iexists _; iexact Hi
    isplitl [Ha]; · iexact Ha
    isplitl [Hb]; · iexact Hb
    isplitl [Hc]; · iexact Hc
    iexact Hbufs
  isplitl [HgA HgB HgC HgD Hsems]
  · isplitl [HgA]; · iexact HgA
    isplitl [HgB]; · iexact HgB
    isplitl [HgC]; · iexact HgC
    isplitl [HgD]; · iexact HgD
    iexact Hsems
  iexists _; isplitr
  swap; · iexact HO
  ipureintro; intro p hp
  rcases hW3 p hp with hp | hp
  · rcases hW2 p hp with hp | hp
    · exact hW1 p hp
    · exact .inr hp
  · exact .inr hp
end Cert.Proof.Pool

end
-- ==== Proof.Region.lean ====
/-
  The dense layers on the TensorCore, as one region of the program: the 32 partial sums, the two weight matrices and
  the two biases are fetched whole, the body computes the 20 probabilities from them, and the result is written back
  whole. Stated for any contents of the program's buffers when the region is entered.
-/
module

public import proofs.«01_k».proof.Proof.Tile
public import Idealize.ShloMosaic.Lib.Pipeline.Regions
public import Idealize.ShloMosaic.Lib.Pipeline.RegionArrays
public import Idealize.ShloMosaic.Lib.VecWindow
public import Idealize.ShloMosaic.Lib.Pipeline.RegionsLoop
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.ValueLayout
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Pool

open Cert.KernelIdeal Cert.KernelIdeal.Gen
open Idealize.ShloMosaic.TcCoe

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Tactic
open Idealize.ShloMosaic.Pipeline (Dat BodyObligation)

variable {F : FTy → Type}

local notation "𝕄" => MT nD τ sig (HIx 1) (Elt F) ℕ UU ℕ

variable [FloatOps F]

/-! ## The body -/

/-- From the five operands and the result's buffer the body leaves the result's at the probabilities. -/
theorem dense_run (c : Dev nD) (f0 : S32x128.Idx → F .f32) (f1 : S32x128.Idx → F .f32) (f2 : S1x32.Idx → F .f32) (f3 : S20x32.Idx → F .f32)
    (f4 : S1x20.Idx → F .f32) (f5 : S1x20.Idx → F .f32) :
    (iprop(((stage1_0 0).view.loc (c : Thread nD τ) ↦{fullShare} f0) ∗ ((stage1_1 0).view.loc (c : Thread nD τ) ↦{fullShare} f1)
        ∗ ((stage1_2 0).view.loc (c : Thread nD τ) ↦{fullShare} f2) ∗ ((stage1_3 0).view.loc (c : Thread nD τ) ↦{fullShare} f3)
        ∗ ((stage1_4 0).view.loc (c : Thread nD τ) ↦{fullShare} f4) ∗ ((stage1_5 0).view.loc (c : Thread nD τ) ↦{fullShare} f5)) : sProp 𝕄)
      ⊢ wp frame (wpE (defs₀ (F := F)) 𝒱₀ (c : Thread nD τ) none) Set.univ
          (cc1_body (stage1_0 0) (hstage1_0 0) (stage1_1 0) (hstage1_1 0) (stage1_2 0) (hstage1_2 0) (stage1_3 0) (hstage1_3 0)
            (stage1_4 0) (hstage1_4 0) (stage1_5 0) (hstage1_5 0))
          fun _ => iprop(((stage1_0 0).view.loc (c : Thread nD τ) ↦{fullShare} f0) ∗ ((stage1_1 0).view.loc (c : Thread nD τ) ↦{fullShare} f1)
            ∗ ((stage1_2 0).view.loc (c : Thread nD τ) ↦{fullShare} f2) ∗ ((stage1_3 0).view.loc (c : Thread nD τ) ↦{fullShare} f3)
            ∗ ((stage1_4 0).view.loc (c : Thread nD τ) ↦{fullShare} f4)
            ∗ ((stage1_5 0).view.loc (c : Thread nD τ) ↦{fullShare} k1_pay1 f0 f1 f2 f3 f4)) := by
  rw [cc1_body_eq_skeleton]
  unfold cc1_body_skel
  iintro ⟨H0, H1, H2, H3, H4, H5⟩
  sl_exec
  sl_step
  isplitl [H0]; · iexact H0
  isplitl [H1]; · iexact H1
  isplitl [H2]; · iexact H2
  isplitl [H3]; · iexact H3
  isplitl [H4]; · iexact H4
  have hpay : (stage1_5 0).view.writes (Elt F) f5 [(⟨Rect.unit ![0, 0] S1x20.size inb_S1x20_S1x20_0_0,
      k1_pay1 ((stage1_0 0).view.readAt (Elt F) (Rect.unit ![0, 0] S32x128.size inb_S32x128_S32x128_0_0).toLoadRect f0)
        ((stage1_1 0).view.readAt (Elt F) (Rect.unit ![0, 0] S32x128.size inb_S32x128_S32x128_0_0).toLoadRect f1)
        ((stage1_2 0).view.readAt (Elt F) (Rect.unit ![0, 0] S1x32.size inb_S1x32_S1x32_0_0).toLoadRect f2)
        ((stage1_3 0).view.readAt (Elt F) (Rect.unit ![0, 0] S20x32.size inb_S20x32_S20x32_0_0).toLoadRect f3)
        ((stage1_4 0).view.readAt (Elt F) (Rect.unit ![0, 0] S1x20.size inb_S1x20_S1x20_0_0).toLoadRect f4)⟩ : View.Piece (Elt F) S1x20 .f32)]
      = k1_pay1 f0 f1 f2 f3 f4 := by
    rw [View.readAt_full, View.readAt_full, View.readAt_full, View.readAt_full, View.readAt_full]
    exact View.read_writes_full (Val := Elt F) (stage1_5 0).view f5 inb_S1x20_S1x20_0_0 _ []
  iapply (Entails.of_eq (congrArg (fun g => ((stage1_5 0).view.loc (c : Thread nD τ) ↦{fullShare} g : sProp 𝕄)) hpay))
  iexact H5

/-! ## The region's proof data, at the buffers' contents on entry -/

variable (V : (c : Dev nD) → (b : Ref sig .tc) → Buf (Elt F) ((c : Thread nD τ).loc b))

/-- A whole-array window's block has the array's coordinates. -/
theorem blk_coord (w : Fin cfg1.W) (t : Fin cfg1.N) (y : ((cfg1.win w).xblock (cfg1.grid.coords t)).Idx) (a : Fin (cfg1.win w).shape.rank)
    (h : (cfg1.win w).index t a = 0) : (((cfg1.win w).rect t).emb y a : ℕ) = y a :=
  Pipeline.Window.rect_emb_val_of_index_zero _ _ _ h y

/-- The operands are whole arrays: each one's block is the array. -/
theorem read_win0 (X : S32x128.Idx → F .f32) : ((cfg1.win 0).blk t1_0).view.read (Elt F) X = X :=
  funext fun y => congrArg X (funext fun a => Fin.ext (blk_coord 0 t1_0 y a rfl))
theorem read_win1 (X : S32x128.Idx → F .f32) : ((cfg1.win 1).blk t1_0).view.read (Elt F) X = X :=
  funext fun y => congrArg X (funext fun a => Fin.ext (blk_coord 1 t1_0 y a rfl))
theorem read_win2 (X : S1x32.Idx → F .f32) : ((cfg1.win 2).blk t1_0).view.read (Elt F) X = X :=
  funext fun y => congrArg X (funext fun a => Fin.ext (blk_coord 2 t1_0 y a rfl))
theorem read_win3 (X : S20x32.Idx → F .f32) : ((cfg1.win 3).blk t1_0).view.read (Elt F) X = X :=
  funext fun y => congrArg X (funext fun a => Fin.ext (blk_coord 3 t1_0 y a rfl))
theorem read_win4 (X : S1x20.Idx → F .f32) : ((cfg1.win 4).blk t1_0).view.read (Elt F) X = X :=
  funext fun y => congrArg X (funext fun a => Fin.ext (blk_coord 4 t1_0 y a rfl))
theorem read_win5 (X : S1x20.Idx → F .f32) : ((cfg1.win 5).blk t1_0).view.read (Elt F) X = X :=
  funext fun y => congrArg X (funext fun a => Fin.ext (blk_coord 5 t1_0 y a rfl))

/-- The probabilities the dense layers compute from the buffers as the region finds them. -/
abbrev probs (c : Dev nD) : S1x20.Idx → F .f32 := k1_pay1 (V c main_v1) (V c main_arg2) (V c main_v2) (V c main_arg4) (V c main_v3)

/-- The waits a core has recorded when the region starts: none at a level above those of the first call. -/
abbrev recs (c : Dev nD) : Set (SemLoc sig × HIx 1) :=
  {p | (K (F := F)).lev ((T c : Thread nD τ), p.1) p.2 ≤ 8 * (inferInstance : SparseCore.Cfg.Blocks 1 1).fst 1}

/-- The region's proof data: the arrays at the entry contents; after the body the operands' buffers as fetched and the
    result's at the probabilities; nothing owed. -/
def dat (c : Dev nD) : Dat τ (Elt F) (HIx 1) ℕ UU ℕ cfg1 c where
  A w := V c (Pipeline.arrRef spec1 w)
  after w _ := match w with
    | ⟨0, _⟩ => V c main_v1
    | ⟨1, _⟩ => V c main_arg2
    | ⟨2, _⟩ => V c main_v2
    | ⟨3, _⟩ => V c main_arg4
    | ⟨4, _⟩ => V c main_v3
    | ⟨5, _⟩ => probs V c
  Φ _ := BI.emp
  q _ := fullShare
  owed _ := 0
  recorded _ := recs (F := F) c

/-- What the body finds in each operand's buffer: the array. -/
theorem before0 (c : Dev nD) (d : S32x128.Idx → F .f32) : (dat V c).before 0 t1_0 d = V c main_v1 := by
  unfold Dat.before; rw [if_pos (fetch1_0 t1_0)]; exact read_win0 (F := F) _
theorem before1 (c : Dev nD) (d : S32x128.Idx → F .f32) : (dat V c).before 1 t1_0 d = V c main_arg2 := by
  unfold Dat.before; rw [if_pos (fetch1_1 t1_0)]; exact read_win1 (F := F) _
theorem before2 (c : Dev nD) (d : S1x32.Idx → F .f32) : (dat V c).before 2 t1_0 d = V c main_v2 := by
  unfold Dat.before; rw [if_pos (fetch1_2 t1_0)]; exact read_win2 (F := F) _
theorem before3 (c : Dev nD) (d : S20x32.Idx → F .f32) : (dat V c).before 3 t1_0 d = V c main_arg4 := by
  unfold Dat.before; rw [if_pos (fetch1_3 t1_0)]; exact read_win3 (F := F) _
theorem before4 (c : Dev nD) (d : S1x20.Idx → F .f32) : (dat V c).before 4 t1_0 d = V c main_v3 := by
  unfold Dat.before; rw [if_pos (fetch1_4 t1_0)]; exact read_win4 (F := F) _

/-- The body, from the six staging buffers as the pipeline hands them over, to what it hands back. -/
theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = BI.emp from rfl, show (dat V c).Φ t1_0.succ = BI.emp from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before0] at hf0; rw [before1] at hf1; rw [before2] at hf2; rw [before3] at hf3; rw [before4] at hf4
  subst hf0 hf1 hf2 hf3 hf4
  ihave H := (dense_run c _ _ _ _ _ f5) $$ [H0 H1 H2 H3 H4 H5]
  · isplitl [H0]; · iexact H0
    isplitl [H1]; · iexact H1
    isplitl [H2]; · iexact H2
    isplitl [H3]; · iexact H3
    isplitl [H4]; · iexact H4
    iexact H5
  iapply wp_wand $$ H
  iintro %_ ⟨H0, H1, H2, H3, H4, H5⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  iexists _; isplitr; swap; (· iexact H5); ipureintro; dsimp only [dat]

/-- The result's array after the region: the probabilities. -/
theorem arr_out (c : Dev nD) : (dat V c).arrAt 5 cfg1.N = probs V c :=
  (dat V c).arrAt_eq_of_cover 5 (probs V c) (fun t _ => by obtain rfl := fin_N1 t; exact (read_win5 (probs V c)).symm)
    fun i => ⟨t1_0, flush1_5 t1_0, by
      have h : ((cfg1.win 5).blk t1_0).view.emb i = i := funext fun a => Fin.ext (blk_coord 5 t1_0 i a rfl)
      have h' := ((cfg1.win 5).blk t1_0).view.emb_mem_set i
      rw [h] at h'; exact h'⟩

/-- The buffers when the region is left: the result's at the probabilities, every other as on entry. -/
def left (c : Dev nD) : (b : Ref sig .tc) → Buf (Elt F) ((c : Thread nD τ).loc b) := Function.update (V c) main_v4 (probs V c)
theorem left_out (c : Dev nD) : left V c main_v4 = probs V c := Function.update_self ..
theorem left_ne (c : Dev nD) (b : Ref sig .tc) (h : b ≠ main_v4) : left V c b = V c b := Function.update_of_ne h ..

abbrev adm : (p : Fin 1) → (pcfgs (F := F) p).Adm := fun p => (cfgs p).toPCfg_adm

/-- The proof data of the program's one pipeline. -/
def pdats : (p : Fin 1) → (c : Dev nD) → Dat τ (Elt F) (HIx 1) ℕ UU ℕ (Pipeline.pin (pcfgs (F := F)) adm p) c
  | ⟨0, _⟩ => fun c => dat V c

/-- A core that owes nothing, its recorded waits within the first call's levels. -/
abbrev idleOwes (c : Dev nD) : sProp 𝕄 :=
  iprop(∃ W, ⌜(K (F := F)).WBelow (T c) W (8 * (inferInstance : SparseCore.Cfg.Blocks 1 1).fst 1)⌝ ∗ owes (T c) (0 : CellTallies nD τ sig (HIx 1)) W)

set_option backward.isDefEq.respectTransparency.types false in
/-- The region: entered with every buffer of the program at `V`, left with the result's at the probabilities. -/
def reg : Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ idleOwes c)
  post c := iprop(unscopedBufs c (left V c) ∗ idleOwes c)
  X _ := BI.emp
  Y _ := BI.emp
  Z c := Pipeline.unscopedRest (Ix := HIx 1) (Name := ℕ) (U := UU) (Lvl := ℕ) spec1 c (V c)
  hentry c := by
    rw [Pipeline.ownSems0_none, Pipeline.prefHeld_of_none _ rfl]
    have hs := Pipeline.arrays_of_unscopedBufs (p := 0) (pcfgs (F := F)) adm (pdats V) launch1.win launch1.arr_whole c
      ((pdats V 0 c).share_full fun _ => rfl) (V c) fun _ => rfl
    iintro ⟨⟨Hbufs, %W, %hW, HO⟩, -, -⟩
    ihave H := hs $$ Hbufs
    icases H with ⟨Harr, Hrest⟩
    imodintro
    isplitl [Harr]; · iexact Harr
    isplitr; · iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = BI.emp from rfl]
    iintro -; iempintro
  hout c := by
    rw [Pipeline.ownSems0_none, show (pdats V 0 c).Φ (Fin.last _) = BI.emp from rfl, scopedRest1_eq]
    iintro -
    isplitr; · iempintro
    isplitr <;> iempintro
  hexit c := by
    have hj := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (left V c) ((pdats V 0 c).arrAt · cfg1.N)
      (fun w => by
        fin_cases w
        · exact ((pdats V 0 c).arrAt_in 0 rfl _).trans (left_ne V c main_v1 (by decide)).symm
        · exact ((pdats V 0 c).arrAt_in 1 rfl _).trans (left_ne V c main_arg2 (by decide)).symm
        · exact ((pdats V 0 c).arrAt_in 2 rfl _).trans (left_ne V c main_v2 (by decide)).symm
        · exact ((pdats V 0 c).arrAt_in 3 rfl _).trans (left_ne V c main_arg4 (by decide)).symm
        · exact ((pdats V 0 c).arrAt_in 4 rfl _).trans (left_ne V c main_v3 (by decide)).symm
        · exact (arr_out V c).trans (left_out V c).symm)
      (fun b hb => left_ne V c b fun h => hb (h ▸ Finset.mem_image.mpr ⟨5, Finset.mem_univ _, rfl⟩))
    iintro ⟨Harr, HO, -, Hrest⟩
    imodintro
    isplitl [Harr Hrest]
    · iapply hj; isplitl [Harr] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Pool

end
-- ==== Proof.Launch.lean ====
/-
  The whole program's run, over any values: the indices laid out per tile, the one SparseCore call, the biases as
  rows, the dense layers' region, the result as a vector. Each tile is handed a share of the indices and of the table
  and its own row of the sums, and hands them back with the row written.
-/
module

public import proofs.«01_k».proof.Proof.Region
public import Idealize.ShloMosaic.Lib.Pipeline.Regions
public import Idealize.ShloMosaic.Lib.Pipeline.RegionArrays
public import Idealize.ShloMosaic.Lib.VecWindow
public import Idealize.ShloMosaic.Lib.Pipeline.RegionsLoop
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.ValueLayout
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Pool

open Cert.KernelIdeal Cert.KernelIdeal.Gen
open Idealize.ShloMosaic.TcCoe

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Tactic
open Idealize.ShloMosaic.Pipeline (Dat BodyObligation)

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The buffers' contents along the program -/

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev s' : DevRef τ sig := Proc.devRef .tc (main_v1 : Ref sig .tc)
abbrev p' : DevRef τ sig := Proc.devRef .tc (main_v4 : Ref sig .tc)

abbrev opX : HloOp τ sig (Elt F) := StableHlo.reshape main_arg0 main_v0 (rfl : (.i32 : EltTy) = .i32) shapeCasts_S16384_S32x4x128
abbrev opB : HloOp τ sig (Elt F) := StableHlo.reshape main_arg3 main_v2 (rfl : (.f32 : EltTy) = .f32) shapeCasts_S32_S1x32
abbrev opC : HloOp τ sig (Elt F) := StableHlo.reshape main_arg5 main_v3 (rfl : (.f32 : EltTy) = .f32) shapeCasts_S20_S1x20
abbrev opY : HloOp τ sig (Elt F) := StableHlo.reshape main_v4 main_v5 (rfl : (.f32 : EltTy) = .f32) shapeCasts_S1x20_S20

/-- The indices as the tiles read them, and the table. -/
def idxIn (d : Dev nD) : S32x4x128.Idx → BitVec 32 := shapeCast S32x4x128 (m ((SparseCore.T d).loc main_arg0) : S16384.Idx → BitVec 32) shapeCasts_S16384_S32x4x128
abbrev tblIn (d : Dev nD) : Buf (Elt F) (eLoc d) := m (eLoc d)

/-- The contents at the launch; with the indices laid out per tile; with the tiles' sums; with the two biases as rows;
    with the probabilities; with the result. -/
def V0 (d : Dev nD) : Valuation τ sig (Elt F) := fun b => m (d, b)
def V1 (d : Dev nD) : Valuation τ sig (Elt F) := (opX (F := F)).result (V0 m d)
def V2 (d : Dev nD) : Valuation τ sig (Elt F) := Function.update (V1 m d) s' (poolOut (idxIn m d) (tblIn m d) : Buf (Elt F) (oLoc d))
def V3 (d : Dev nD) : Valuation τ sig (Elt F) := (opB (F := F)).result (V2 m d)
def V4 (d : Dev nD) : Valuation τ sig (Elt F) := (opC (F := F)).result (V3 m d)
/-- What the region is entered with, by reference. -/
def VR (d : Dev nD) (b : Ref sig .tc) : Buf (Elt F) ((d : Thread nD τ).loc b) := V4 m d (Proc.devRef .tc b)
def V5 (d : Dev nD) : Valuation τ sig (Elt F) := Function.update (V4 m d) p' (probs (VR m) d)
def V6 (d : Dev nD) : Valuation τ sig (Elt F) := (opY (F := F)).result (V5 m d)

theorem V1_x (d : Dev nD) : V1 m d x' = (idxIn m d : Buf (Elt F) (xLoc d)) :=
  (StableHlo.reshape_result main_arg0 main_v0 _ _ _ _ _).trans rfl
theorem V1_ne (d : Dev nD) {r : Ref sig .tc} (h : r ≠ main_v0) : V1 m d (Proc.devRef .tc r) = m ((SparseCore.T d).loc r) :=
  StableHlo.reshape_result_ne _ _ _ _ _ _ _ h
theorem V2_s (d : Dev nD) : V2 m d s' = (poolOut (idxIn m d) (tblIn m d) : Buf (Elt F) (oLoc d)) := Function.update_self _ _ _
theorem V2_ne (d : Dev nD) {r : Ref sig .tc} (h : r ≠ main_v1) : V2 m d (Proc.devRef .tc r) = V1 m d (Proc.devRef .tc r) :=
  Function.update_of_ne (StableHlo.devRef_ne_of_ne h) _ _
theorem V3_ne (d : Dev nD) {r : Ref sig .tc} (h : r ≠ main_v2) : V3 m d (Proc.devRef .tc r) = V2 m d (Proc.devRef .tc r) :=
  StableHlo.reshape_result_ne _ _ _ _ _ _ _ h
theorem V4_ne (d : Dev nD) {r : Ref sig .tc} (h : r ≠ main_v3) : V4 m d (Proc.devRef .tc r) = V3 m d (Proc.devRef .tc r) :=
  StableHlo.reshape_result_ne _ _ _ _ _ _ _ h
theorem V5_ne (d : Dev nD) {r : Ref sig .tc} (h : r ≠ main_v4) : V5 m d (Proc.devRef .tc r) = V4 m d (Proc.devRef .tc r) :=
  Function.update_of_ne (StableHlo.devRef_ne_of_ne h) _ _
theorem V6_ne (d : Dev nD) {r : Ref sig .tc} (h : r ≠ main_v5) : V6 m d (Proc.devRef .tc r) = V5 m d (Proc.devRef .tc r) :=
  StableHlo.reshape_result_ne _ _ _ _ _ _ _ h

/-- A buffer the program never writes ends as it began. -/
theorem V6_kept (d : Dev nD) {r : Ref sig .tc} (h0 : r ≠ main_v0) (h1 : r ≠ main_v1) (h2 : r ≠ main_v2) (h3 : r ≠ main_v3)
    (h4 : r ≠ main_v4) (h5 : r ≠ main_v5) : V6 m d (Proc.devRef .tc r) = m ((SparseCore.T d).loc r) :=
  (V6_ne m d h5).trans <| (V5_ne m d h4).trans <| (V4_ne m d h3).trans <| (V3_ne m d h2).trans <| (V2_ne m d h1).trans (V1_ne m d h0)

/-- What the program computes of the launch contents. -/
def result (d : Dev nD) : S20.Idx → F .f32 :=
  shapeCast S20 (k1_pay1 (F := F) (poolOut (idxIn m d) (tblIn m d)) (m ((SparseCore.T d).loc main_arg2))
    (shapeCast S1x32 (m ((SparseCore.T d).loc main_arg3) : S32.Idx → F .f32) shapeCasts_S32_S1x32) (m ((SparseCore.T d).loc main_arg4))
    (shapeCast S1x20 (m ((SparseCore.T d).loc main_arg5) : S20.Idx → F .f32) shapeCasts_S20_S1x20)) shapeCasts_S1x20_S20

theorem VR_s (d : Dev nD) : VR m d main_v1 = (poolOut (idxIn m d) (tblIn m d) : S32x128.Idx → F .f32) :=
  (V4_ne m d (by decide)).trans ((V3_ne m d (by decide)).trans (V2_s m d))
theorem VR_arg (d : Dev nD) {r : Ref sig .tc} (h0 : r ≠ main_v0) (h1 : r ≠ main_v1) (h2 : r ≠ main_v2) (h3 : r ≠ main_v3) :
    VR m d r = m ((SparseCore.T d).loc r) :=
  (V4_ne m d h3).trans <| (V3_ne m d h2).trans <| (V2_ne m d h1).trans (V1_ne m d h0)
theorem VR_b (d : Dev nD) : VR m d main_v2 = (shapeCast S1x32 (m ((SparseCore.T d).loc main_arg3) : S32.Idx → F .f32) shapeCasts_S32_S1x32 : S1x32.Idx → F .f32) := by
  refine (V4_ne m d (by decide)).trans ((StableHlo.reshape_result main_arg3 main_v2 _ _ _ _ _).trans ?_)
  show shapeCast S1x32 (V2 m d (Proc.devRef .tc main_arg3) : S32.Idx → F .f32) _ = _
  rw [V2_ne m d (by decide), V1_ne m d (by decide)]
theorem VR_c (d : Dev nD) : VR m d main_v3 = (shapeCast S1x20 (m ((SparseCore.T d).loc main_arg5) : S20.Idx → F .f32) shapeCasts_S20_S1x20 : S1x20.Idx → F .f32) := by
  refine Eq.trans (b := (opC (F := F)).result (V3 m d) (Proc.devRef .tc main_v3)) rfl ((StableHlo.reshape_result main_arg5 main_v3 _ _ _ _ _).trans ?_)
  show shapeCast S1x20 (V3 m d (Proc.devRef .tc main_arg5) : S20.Idx → F .f32) _ = _
  rw [V3_ne m d (by decide), V2_ne m d (by decide), V1_ne m d (by decide)]

theorem V6_out (d : Dev nD) : V6 m d (Proc.devRef .tc main_v5) = (result m d : S20.Idx → F .f32) := by
  refine (StableHlo.reshape_result main_v4 main_v5 _ _ _ _ _).trans ?_
  show shapeCast S20 (V5 m d p' : S1x20.Idx → F .f32) _ = _
  rw [show V5 m d p' = probs (VR m) d from Function.update_self _ _ _]
  unfold probs result
  rw [VR_s, VR_b, VR_c, VR_arg m d (r := main_arg2) (by decide) (by decide) (by decide) (by decide),
    VR_arg m d (r := main_arg4) (by decide) (by decide) (by decide) (by decide)]

/-! ## What the one call hands each tile and takes back -/

/-- The tile's number from its core and its place on the core. -/
abbrev wOf (c : Fin 2) (i : Fin 16) : Fin 32 := ⟨2 * i.val + c.val, by omega⟩
/-- Its share of the indices and of the table. -/
abbrev shOf (w : Fin 32) : PosShare TreeShare := pieceOf fullShare 32 (by decide) w

abbrev goTile (d : Dev nD) (c : Fin 2) (i : Fin 16) : sProp 𝕄 :=
  tileIn d (idxIn m d) (tblIn m d) (m (oLoc d)) (shOf (wOf c i)) (wOf c i)
abbrev tdTile (d : Dev nD) (c : Fin 2) (i : Fin 16) : sProp 𝕄 :=
  tileIn d (idxIn m d) (tblIn m d) (poolOut (idxIn m d) (tblIn m d)) (shOf (wOf c i)) (wOf c i)

/-- Each core is handed its 16 tiles' parts. -/
def P : (K (F := F)).Pay (nD := nD) (Val := Elt F) (Name := ℕ) (U := UU) where
  st := fun q d c => match q with | 0 => bigSep Finset.univ fun i : Fin 16 => goTile m d (Fin.cast nCore_zero c) i
  dn := fun q d c => match q with | 0 => bigSep Finset.univ fun i : Fin 16 => tdTile m d (Fin.cast nCore_zero c) i
  go := fun q d c i => match q with | 0 => goTile m d (Fin.cast nCore_zero c) (Fin.cast nSub_zero i)
  td := fun q d c i => match q with | 0 => tdTile m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goTile m d (Fin.cast nCore_zero c) i))
  dn q d c := match q with
    | 0 => (inferInstance : BI.Storable (upEmb : UEmb _ 𝕄) (bigSep Finset.univ fun i : Fin 16 => tdTile m d (Fin.cast nCore_zero c) i))
  go q d c i := match q with
    | 0 => (inferInstance : BI.Storable (upEmb : UEmb _ 𝕄) (goTile m d (Fin.cast nCore_zero c) (Fin.cast nSub_zero i)))
  td q d c i := match q with
    | 0 => (inferInstance : BI.Storable (upEmb : UEmb _ 𝕄) (tdTile m d (Fin.cast nCore_zero c) (Fin.cast nSub_zero i)))

/-- What is asked of the launch memory: every index names a row of the table. -/
def InVocab : Prop := ∀ (d : Dev nD) (j : S16384.Idx), (m ((SparseCore.T d).loc main_arg0) j : BitVec 32).toNat < 1000000

theorem vecSplit : (K (F := F)).VecSplit' (P m) 0 := by
  intro d c
  show (bigSep Finset.univ fun i : Fin 16 => goTile m d (Fin.cast nCore_zero c) i) ⊢ |={Set.univ}=> iprop(
      (bigSep Finset.univ fun i : Fin 16 => goTile m d (Fin.cast nCore_zero c) i)
      ∗ ((bigSep Finset.univ fun i : Fin 16 => tdTile m d (Fin.cast nCore_zero c) i)
          -∗ bigSep Finset.univ fun i : Fin 16 => tdTile m d (Fin.cast nCore_zero c) i))
  iintro H; imodintro
  isplitl [H]; · iexact H
  iintro Ht; iexact Ht

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) eV (Memref.isWhole_whole _) oV (Memref.isWhole_whole _) iS (Memref.isWhole_whole _)
          aS (Memref.isWhole_whole _) bS (Memref.isWhole_whole _) cS (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InVocab m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (idxIn m d) (tblIn m d) (m (oLoc d))
    (shOf (wOf (Fin.cast nCore_zero c) (Fin.cast nSub_zero i))) (fun y => hpre d _) O W hO).trans (wp_mono frame _ _ fun _ => obl_post)

/-! ## The arrays split over the tiles -/

omit [FloatOps F] in
theorem oRowSet_eq (w : Fin 32) : oRowSet w = (orow w).set := by
  show ((View.whole (main_v1_scv : Ref sig .scVector)).slice (orow w)).set = _
  rw [View.set_slice]; exact Finset.map_refl
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem orows_cover : (Finset.univ : Finset (Fin 32)).biUnion oRowSet = Finset.univ :=
  (Finset.biUnion_congr rfl fun i _ => oRowSet_eq i).trans (Rect.biUnion_part odiv)

/-- A core and a place on it against the tile's number. -/
def tileEquiv : Fin 2 × Fin 16 ≃ Fin 32 where
  toFun p := wOf p.1 p.2
  invFun w := (⟨w.val % 2, Nat.mod_lt _ (by decide)⟩, ⟨w.val / 2, by omega⟩)
  left_inv p := by rcases p with ⟨⟨c, hc⟩, ⟨i, hi⟩⟩; ext <;> simp only [wOf] <;> omega
  right_inv w := by ext; simp only [wOf]; omega

/-- The three arrays the call works on are the tiles' parts, whatever the sums' array holds. -/
theorem split_tiles (d : Dev nD) (o : Buf (Elt F) (oLoc d)) :
    (iprop((xLoc d ↦{fullShare} (idxIn m d : Buf (Elt F) (xLoc d))) ∗ (eLoc d ↦{fullShare} tblIn m d) ∗ oLoc d ↦{fullShare} o) : sProp 𝕄)
      = bigSep Finset.univ fun c : Fin 2 => bigSep Finset.univ fun i : Fin 16 =>
          tileIn d (idxIn m d) (tblIn m d) o (shOf (wOf c i)) (wOf c i) := by
  have h := bigSep_univ_equiv tileEquiv (fun w : Fin 32 => tileIn d (idxIn m d) (tblIn m d) o (shOf w) w)
  rw [bigSep_univ_prod] at h
  refine Eq.trans ?_ h
  rw [bigSep_sep', bigSep_sep']
  congr 1
  · exact pointsTo_piecesOf Finset.univ _ (by decide) fullShare
  congr 1
  · exact pointsTo_piecesOf Finset.univ _ (by decide) fullShare
  · rw [← pointsTo_biUnion Finset.univ (ℓ := oLoc d) oRowSet orows_disjoint, orows_cover]; try rfl

theorem st0_eq (d : Dev nD) : (bigSep Finset.univ fun c : Fin ((K (F := F)).nCore 0) => (P m).st 0 d c)
    = (iprop((xLoc d ↦{fullShare} (idxIn m d : Buf (Elt F) (xLoc d))) ∗ (eLoc d ↦{fullShare} tblIn m d) ∗ oLoc d ↦{fullShare} m (oLoc d)) : sProp 𝕄) :=
  (split_tiles m d (m (oLoc d))).symm
theorem dn0_eq (d : Dev nD) : (bigSep Finset.univ fun c : Fin ((K (F := F)).nCore 0) => (P m).dn 0 d c)
    = (iprop((xLoc d ↦{fullShare} (idxIn m d : Buf (Elt F) (xLoc d))) ∗ (eLoc d ↦{fullShare} tblIn m d) ∗ oLoc d ↦{fullShare} (poolOut (idxIn m d) (tblIn m d) : Buf (Elt F) (oLoc d))) : sProp 𝕄) :=
  (split_tiles m d _).symm

/-! ## The launch element of the certificate's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The region's share of it on one device. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (show BI.own (embR (initOf (Pipeline.cells (Pipeline.pin (pcfgs (F := F)) adm) cellOf_inj) (Pipeline.launchToks (Pipeline.pin (pcfgs (F := F)) adm) cellOf_inj), (1 : Counters)))
      ⊢ (iprop(BI.own (EP (F := F) (initOf (Pipeline.cells (Pipeline.pin (pcfgs (F := F)) adm) cellOf_inj) (Pipeline.launchToks (Pipeline.pin (pcfgs (F := F)) adm) cellOf_inj))) ∗ BI.own _) : sProp 𝕄)
      from own_pair_emb _ _ _) $$ HR
  icases H with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · rw [bigSep_sep']
    isplitl [Hg]
    · iapply (Entails.of_eq (show (bigSep Finset.univ fun d : Dev nD => bigSep Finset.univ fun p : Fin 1 => (Pipeline.cellsGhost (Pipeline.pin (pcfgs (F := F)) adm) (EP (F := F)) p d : sProp 𝕄))
        = bigSep Finset.univ fun d : Dev nD => Pipeline.cellsGhost (Pipeline.pin (pcfgs (F := F)) adm) (EP (F := F)) 0 d from
          bigSep_congr fun d _ => bigSep_univ_of_subsingleton (0 : Fin 1))); iexact Hg
    · iapply (Entails.of_eq (show (bigSep Finset.univ fun d : Dev nD => bigSep Finset.univ fun p : Fin 1 => (Pipeline.toksInit (Pipeline.pin (pcfgs (F := F)) adm) (EP (F := F)) p d : sProp 𝕄))
        = bigSep Finset.univ fun d : Dev nD => Pipeline.toksInit (Pipeline.pin (pcfgs (F := F)) adm) (EP (F := F)) 0 d from
          bigSep_congr fun d _ => bigSep_univ_of_subsingleton (0 : Fin 1))); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev UC : Finset (DevRef τ sig) := Pipeline.ucRefs τ sig
/-- The three arrays of the call. -/
abbrev S3 : Finset (DevRef τ sig) := {x', a1', s'}
theorem S3_sub : S3 ⊆ UC := by decide

omit [FloatOps F] in
theorem held_S3 (d : Dev nD) (W : Valuation τ sig (Elt F)) :
    (StableHlo.held (SparseCore.T d) S3 W : sProp 𝕄) = iprop((xLoc d ↦{fullShare} W x') ∗ (eLoc d ↦{fullShare} W a1') ∗ oLoc d ↦{fullShare} W s') := by
  unfold StableHlo.held S3
  rw [SparseCore.bigSep_insert' (by decide), SparseCore.bigSep_insert' (by decide), bigSep_singleton]

theorem held_V1 (d : Dev nD) : (StableHlo.held (SparseCore.T d) S3 (V1 m d) : sProp 𝕄)
    = iprop((xLoc d ↦{fullShare} (idxIn m d : Buf (Elt F) (xLoc d))) ∗ (eLoc d ↦{fullShare} tblIn m d) ∗ oLoc d ↦{fullShare} m (oLoc d)) := by
  rw [held_S3, V1_x, V1_ne m d (r := main_arg1) (by decide), V1_ne m d (r := main_v1) (by decide)]
theorem held_V2 (d : Dev nD) : (StableHlo.held (SparseCore.T d) S3 (V2 m d) : sProp 𝕄)
    = iprop((xLoc d ↦{fullShare} (idxIn m d : Buf (Elt F) (xLoc d))) ∗ (eLoc d ↦{fullShare} tblIn m d) ∗ oLoc d ↦{fullShare} (poolOut (idxIn m d) (tblIn m d) : Buf (Elt F) (oLoc d))) := by
  rw [held_S3, V2_s, V2_ne m d (r := main_v0) (by decide), V1_x, V2_ne m d (r := main_arg1) (by decide), V1_ne m d (r := main_arg1) (by decide)]
theorem held_rest (d : Dev nD) : (StableHlo.held (SparseCore.T d) (UC \ S3) (V1 m d) : sProp 𝕄) = StableHlo.held (SparseCore.T d) (UC \ S3) (V2 m d) :=
  StableHlo.held_congr _ fun b hb => (Function.update_of_ne (fun h => (Finset.mem_sdiff.mp hb).2 (by subst h; decide)) _ _).symm

/-- What the region is entered with and left with, as the buffers held. -/
theorem bufs_VR (d : Dev nD) : (unscopedBufs d (VR m d) : sProp 𝕄) = StableHlo.held (SparseCore.T d) UC (V4 m d) := Pipeline.unscopedBufs_held d (V4 m d)
theorem bufs_left (d : Dev nD) : (unscopedBufs d (left (VR m) d) : sProp 𝕄) = StableHlo.held (SparseCore.T d) UC (V5 m d) := by
  rw [← Pipeline.unscopedBufs_held d (V5 m d)]
  congr 1; funext b
  by_cases h : b = main_v4
  · subst h; exact (left_out (VR m) d).trans (Function.update_self p' _ (V4 m d)).symm
  · exact (left_ne (VR m) d b h).trans (V5_ne m d h).symm

/-- What @main leaves the claim: every buffer at its last contents. -/
abbrev FIN (d : Dev nD) : sProp 𝕄 := StableHlo.held (SparseCore.T d) UC (V6 m d)

theorem Otc_done (d : Dev nD) : (K (F := F)).Otc d 1 = 0 := by simp [SparseCore.Cfg.Otc]

/-- The region's call in @main is the region's own program, lifted to the calls of the whole program. -/
theorem lift_entry (d : Dev nD) :
    (SparseCore.liftProg (.op (.customCall (Pipeline.entry 0) ()) fun _ => .ret ⟨⟩ : Prog (TpuEff nD τ sig (Elt F) (ΛP (F := F)) (SparseCore.T d : Thread nD τ).2) PUnit)
        : Prog (TpuEff nD τ sig (Elt F) (SparseCore.Sig (ΛP (F := F)) 1) (SparseCore.T d : Thread nD τ).2) PUnit)
      = Prog.lift (TpuEff.customCall (SparseCore.inner (Pipeline.entry 0)) ()) := rfl

/-- The region's call in @main. -/
theorem region_step [∀ e, Nonempty (Elt F e)] (d : Dev nD) (Φ : PUnit → sProp 𝕄) :
    iprop((iprop(boundary (d.tc : Thread nD τ) ∗ unscopedBufs d (left (VR m) d) ∗ idleOwes (F := F) d) -∗ Φ ⟨⟩)
        ∗ boundary (d.tc : Thread nD τ) ∗ (unscopedBufs d (VR m d) ∗ idleOwes (F := F) d)
        ∗ levAts (K (F := F)).L (K (F := F)).lev ∗ G (F := F) d)
      ⊢ wp frame (wpE ((K (F := F)).defs (D (F := F))) 𝒱 (SparseCore.T d) none) Set.univ
          (Prog.lift (TpuEff.customCall (SparseCore.inner (Pipeline.entry 0)) ())) Φ := by
  have h := Pipeline.RegionSeg.wp (pcfgs (F := F)) adm (pdats (VR m)) none cellOf_inj (EP (F := F)) defs₀ 𝒱₀ (K (F := F)).L (K (F := F)).lev
    (reg (VR m)) d none (fun _ h => nomatch h) (fun _ => .ret ⟨⟩) Φ
  have h' := h.trans ((K (F := F)).wp_liftProg (D (F := F)) 𝒱 (SparseCore.T d) Set.univ none _ Φ)
  rw [← lift_entry d]
  refine BI.Entails.trans ?_ h'
  change _ ⊢ (iprop((iprop(boundary (d.tc : Thread nD τ) ∗ unscopedBufs d (left (VR m) d) ∗ idleOwes (F := F) d)
          -∗ wp frame (wpE (D (F := F)) 𝒱 (SparseCore.T d) none) Set.univ (.ret ⟨⟩) Φ)
        ∗ boundary (d.tc : Thread nD τ) ∗ (unscopedBufs d (VR m d) ∗ idleOwes (F := F) d)
        ∗ levAts (K (F := F)).L (K (F := F)).lev ∗ G (F := F) d) : sProp 𝕄)
  iintro ⟨Hk, Hrest⟩
  isplitl [Hk]
  · iintro H; rw [wp_ret]; imodintro; iapply Hk; iexact H
  iexact Hrest

set_option maxRecDepth 8192 in
/-- @main on device `d`'s TensorCore: the indices laid out per tile, the call, the biases as rows, the region, the
    result as a vector. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) UC (V0 m d) from Pipeline.unscopedBufs_held d (V0 m d)]
  simp only [main, wp_bind, wp_pure]
  iintro ⟨#Hctx, Hst, ⟨Hb, Hheld, Hts, -⟩, Hg, Hk⟩
  -- the indices laid out per tile
  iapply (StableHlo.wp_hlo_within 𝒱 (SparseCore.T d) none Set.univ (op := opX) (S := UC) (Pipeline.sub_ucRefs _ (StableHlo.reshape_bufs_sub _ _ _ _ _ _)) (V := V0 m d)) $$ [Hb Hheld]
  · isplitl [Hb]; · iexact Hb
    iexact Hheld
  iintro ⟨Hb, Hheld⟩
  rw [wp_ret]; imodintro
  -- the call
  ihave Hh := (Entails.of_eq (show StableHlo.held (SparseCore.T d) UC ((opX (F := F)).result (V0 m d)) = _ from StableHlo.held_sub_split (SparseCore.T d) S3_sub (V1 m d))) $$ Hheld
  icases Hh with ⟨H3, Hrest⟩
  iapply ((K (F := F)).wp_run (D (F := F)) 𝒱 (EH := EH) (P := P m) κ d 0) $$ [Hst Hb H3 Hrest Hts Hg Hk]
  isplitr; · iexact Hctx
  isplitl [Hst]; · iexact Hst
  isplitl [H3]
  · rw [st0_eq]; iapply (Entails.of_eq (held_V1 m d)); iexact H3
  iintro ⟨Hst, Hdn⟩
  ihave Hdn' := (Entails.of_eq ((dn0_eq m d).trans (held_V2 m d).symm)) $$ Hdn
  ihave Hrest' := (Entails.of_eq (held_rest m d)) $$ Hrest
  ihave Hheld := (Entails.of_eq (StableHlo.held_sub_split (SparseCore.T d) S3_sub (V2 m d)).symm) $$ [Hdn' Hrest']
  · isplitl [Hdn'] <;> iassumption
  -- the biases as rows
  iapply (StableHlo.wp_hlo_within 𝒱 (SparseCore.T d) none Set.univ (op := opB) (S := UC) (Pipeline.sub_ucRefs _ (StableHlo.reshape_bufs_sub _ _ _ _ _ _)) (V := V2 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opC) (S := UC) (Pipeline.sub_ucRefs _ (StableHlo.reshape_bufs_sub _ _ _ _ _ _)) (V := V3 m d)) $$ [Hb Hheld]
  · isplitl [Hb]; · iexact Hb
    iexact Hheld
  iintro ⟨Hb, Hheld⟩
  rw [wp_ret]; imodintro
  -- the region
  ihave Hlev := (SparseCore.Cfg.ctx_levAts κ) $$ Hctx
  unfold SparseCore.Cfg.tcSt
  icases Hst with ⟨⟨%W, %hW, HO⟩, Hst⟩
  ihave HO := (Entails.of_eq (show (owes (SparseCore.T d) ((K (F := F)).Otc d ((0 : Fin 1).val + 1)) W : sProp 𝕄) = owes (SparseCore.T d) 0 W from congrArg (fun O => owes (SparseCore.T d) O W) (Otc_done (F := F) d))) $$ HO
  ihave Hbufs := (Entails.of_eq (show StableHlo.held (SparseCore.T d) UC ((opC (F := F)).result (V3 m d)) = _ from (bufs_VR m d).symm)) $$ Hheld
  iapply (region_step m d)
  isplitr [Hb Hbufs HO Hlev Hg Hk]
  swap
  · isplitl [Hb]; · iexact Hb
    isplitl [Hbufs HO]
    · isplitl [Hbufs]; · iexact Hbufs
      iexists W; isplitr; · ipureintro; exact hW
      iexact HO
    isplitl [Hlev]; · iexact Hlev
    isplitl [Hg] <;> iassumption
  iintro ⟨Hb, Hbufs, %W', %hW', HO⟩
  ihave Hheld := (Entails.of_eq (bufs_left m d)) $$ Hbufs
  -- the result as a vector
  iapply (StableHlo.wp_hlo_within 𝒱 (SparseCore.T d) none Set.univ (op := opY) (S := UC) (Pipeline.sub_ucRefs _ (StableHlo.reshape_bufs_sub _ _ _ _ _ _)) (V := V5 m d)) $$ [Hb Hheld]
  · isplitl [Hb]; · iexact Hb
    iexact Hheld
  iintro ⟨Hb, Hheld⟩
  rw [wp_ret]; imodintro; imodintro
  isplitl [HO Hst]
  · isplitl [HO]
    · iexists W'; isplitr; · ipureintro; exact hW'
      iapply (Entails.of_eq (congrArg (fun O => owes (SparseCore.T d) O W') (Otc_done (F := F) d).symm)); iexact HO
    iexact Hst
  isplitl [Hheld]; · iexact Hheld
  isplitl [Hb] <;> iassumption

/-- A memory agrees with the held buffers. -/
def fq (d : Dev nD) (t : Phys nD τ sig (Elt F)) : Prop := ∀ r : Ref sig .tc, ¬ r.isScoped → t.mem.mem ((SparseCore.T d).loc r) = V6 m d (Proc.devRef .tc r)

theorem hfin (d : Dev nD) (t : Phys nD τ sig (Elt F)) : iprop(FIN m d ∗ SI t) ⊢ (⌜fq m d t⌝ : sProp 𝕄) := by
  have h : ∀ r : Ref sig .tc, ¬ r.isScoped → iprop(FIN m d ∗ SI t) ⊢ (⌜t.mem.mem ((SparseCore.T d).loc r) = V6 m d (Proc.devRef .tc r)⌝ : sProp 𝕄) := by
    intro r hr
    have hm : Proc.devRef .tc r ∈ UC := Finset.mem_filter.mpr ⟨StableHlo.devRef_mem_tcRefs r, hr⟩
    iintro ⟨Hh, HSI⟩
    ihave Hp := (show FIN m d ⊢ (((SparseCore.T d).loc r) ↦{fullShare} V6 m d (Proc.devRef .tc r) : sProp 𝕄) from bigSep_elim hm) $$ Hh
    ihave H := (SI_pointsTo_agree (st := t) (ℓ := (SparseCore.T d).loc r) (I := Finset.univ) (q := fullShare) (f := V6 m d (Proc.devRef .tc r))) $$ [HSI Hp]
    · isplitl [HSI] <;> iassumption
    icases H with %hx
    ipureintro; exact funext fun i => hx i (Finset.mem_univ i)
  unfold fq
  exact (forall_intro fun r => (forall_intro fun hr => h r hr).trans pure_forall.2).trans pure_forall.2

/-! ## The program's run -/

/-- The six arguments unchanged, the result the value computed, every semaphore at zero. -/
def QC : PUnit × MemSt nD τ sig (Elt F) → Prop := fun r =>
  (∀ c : Dev nD, r.2.mem ((SparseCore.T c).loc main_v5) = (result m c : S20.Idx → F .f32)
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_arg4) = m ((SparseCore.T c).loc main_arg4) ∧ r.2.mem ((SparseCore.T c).loc main_arg5) = m ((SparseCore.T c).loc main_arg5))
  ∧ r.2.sem = fun _ => 0

theorem QC_of_fq (t : Phys nD τ sig (Elt F)) (h : ∀ d, fq m d t) (hz : t.mem.sem = fun _ => 0) : QC m (⟨⟩, t.mem) :=
  ⟨fun c => ⟨(h c main_v5 (by decide)).trans (V6_out m c),
    (h c main_arg0 (by decide)).trans (V6_kept m c (by decide) (by decide) (by decide) (by decide) (by decide) (by decide)),
    (h c main_arg1 (by decide)).trans (V6_kept m c (by decide) (by decide) (by decide) (by decide) (by decide) (by decide)),
    (h c main_arg2 (by decide)).trans (V6_kept m c (by decide) (by decide) (by decide) (by decide) (by decide) (by decide)),
    (h c main_arg3 (by decide)).trans (V6_kept m c (by decide) (by decide) (by decide) (by decide) (by decide) (by decide)),
    (h c main_arg4 (by decide)).trans (V6_kept m c (by decide) (by decide) (by decide) (by decide) (by decide) (by decide)),
    (h c main_arg5 (by decide)).trans (V6_kept m c (by decide) (by decide) (by decide) (by decide) (by decide) (by decide))⟩, hz⟩

/-- Every run of the program from indices in range ends with the computed result and nothing else changed. -/
theorem run_main [∀ e, Nonempty (Elt F e)] (hpre : InVocab m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (QC_of_fq m)

end Cert.Proof.Pool

end
-- ==== Proof.Frames.lean ====
/-
  From the precondition to the indices' range, and the frames: what the launches leave of the arguments and of the
  counters, read off the whole program's run and off the reference's.
-/
module

public import proofs.«01_k».proof.Proof.Launch
public import proofs.«01_k».proof.Defs
public import proofs.«01_k».proof.Proof.Gen.Kernel
public import proofs.«01_k».proof.Proof.Gen.Pre_in_vocab
public import proofs.«01_k».proof.Proof.Gen.ReferenceIdeal
public import proofs.«01_k».proof.Proof.Gen.ReferenceIdeal.Run
public import Idealize.ShloMosaic.Lib.ReduceAll

@[expose] public section

noncomputable section

namespace Cert.Proof.Pool

open Idealize.ShloMosaic Idealize.SL.Sem

/-! ## The precondition, at one index -/

/-- A word that is at least 0 and below 1000000 as a signed number names one of the table's rows. -/
theorem toNat_lt_of_bits (v : BitVec 32) (h : IntOp.andi (IntOp.cmpi .sge v 0#32) (IntOp.cmpi .slt v 1000000#32) = 1#1) :
    v.toNat < 1000000 := by
  have both : ∀ a b : Bool, IntOp.andi (BitVec.ofBool a) (BitVec.ofBool b) = 1#1 → a = true ∧ b = true := by decide
  obtain ⟨h0, h1⟩ := both _ _ h
  simp only [BitVec.sle_eq_decide, BitVec.slt_eq_decide, decide_eq_true_eq, BitVec.toInt_eq_toNat_cond, BitVec.toNat_ofNat,
    Nat.reducePow, Nat.reduceMod] at h0 h1
  omega

/-- Where the precondition's predicate is one, every index names one of the table's rows. -/
theorem index_lt {F : FTy → Type} [FloatOps F] (x : IVec Cert.Pre_in_vocab.S16384 32)
    (a1 : FVec F Cert.Pre_in_vocab.S1000000x128 .f32) (a2 : FVec F Cert.Pre_in_vocab.S32x128 .f32) (a3 : FVec F Cert.Pre_in_vocab.S32 .f32)
    (a4 : FVec F Cert.Pre_in_vocab.S20x32 .f32) (a5 : FVec F Cert.Pre_in_vocab.S20 .f32)
    (h : Cert.Pre_in_vocab.fn (F := F) x a1 a2 a3 a4 a5 = fun _ => 1#1) (j : Cert.Pre_in_vocab.S16384.Idx) :
    (x j : BitVec 32).toNat < 1000000 := by
  haveI : Subsingleton Cert.Pre_in_vocab.S_.Idx := ⟨fun a b => funext fun i => i.elim0⟩
  exact toNat_lt_of_bits _ (Host.reduce_andi_all _ _ _ _ (Shape.Idx.first Cert.Pre_in_vocab.Facts.h_S_) (congrFun h _) j)

/-- The precondition of the program over the ideal values puts every index in range. -/
theorem inVocab_ideal (m : (ℓ : Loc Cert.KernelIdeal.nD Cert.KernelIdeal.τ Cert.KernelIdeal.sig) → Buf (Elt Ideal) ℓ)
    (h : Cert.Pre_KernelIdeal m) : InVocab (F := Ideal) m :=
  fun d j => index_lt _ _ _ _ _ _ (h d) j

/-- The precondition of the program over words puts every index in range. -/
theorem inVocab_bits (m : (ℓ : Loc Cert.Kernel.nD Cert.Kernel.τ Cert.Kernel.sig) → Buf (Elt Bits) ℓ)
    (h : Cert.Pre_Kernel m) : InVocab (F := Bits) m :=
  fun d j => index_lt _ _ _ _ _ _ (h d) j

/-! ## The frames -/

/-- Over any values: the program runs, leaves its arguments as they were and every counter at zero. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (h : InVocab m) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run Cert.KernelIdeal.defs _ _).mono (fun _ q => ⟨fun c => (q.1 c).2, q.2⟩) (run_main m ρ h)

set_option maxRecDepth 65536 in
set_option smartUnfolding false in
/-- The program over words runs, leaves its arguments as they were and every counter at zero: the two programs have
    one text. -/
theorem frame_kernel : Cert.quiescent_Kernel := fun m ρ h => frame_any (F := Bits) m ρ (inVocab_bits m h)

/-- The program over the ideal values runs, leaves its arguments as they were and every counter at zero. -/
theorem frame_kernelIdeal : Cert.quiescent_KernelIdeal := fun m ρ h => frame_any (F := Ideal) m ρ (inVocab_ideal m h)

/-- The reference runs and leaves its arguments as they were; it has no counter. -/
theorem frame_reference : Cert.quiescent_ReferenceIdeal := fun m ρ _ =>
  (θ_run Cert.ReferenceIdeal.defs _ _).mono (fun r q => ⟨fun c => (q c).2, sem_eq_zero_of_no_sems (by decide) r.2⟩)
    (Cert.ReferenceIdeal.Value.run (F := Ideal) m ρ)

/-- The same under the precondition, which the reference does not need. -/
theorem frame_reference_pre : Cert.quiescent_ReferenceIdeal_pre_in_vocab := fun m ρ _ => frame_reference m ρ trivial

end Cert.Proof.Pool

end
-- ==== Proof.Dense.lean ====
/-
  The dense layers at one result index, over the extended reals: what the program's second kernel stores and what the
  reference's last operations leave are one formula of the pooled row, the weights and the biases.
-/
module

public import proofs.«01_k».proof.Proof.Frames
public import Idealize.ShloMosaic.Lib.Pointwise

@[expose] public section

noncomputable section

namespace Cert.Proof.Pool

open Idealize.ShloMosaic

/-! ## The formula -/

/-- Class `j`'s score of a pooled row `w`: the hidden layer's 32 units, `tanh` of the row against the unit's weights plus
    its bias, against the class's weights, plus its bias. -/
def score (w : Fin 128 → EReal) (wh : (⟨2, ![32, 128]⟩ : Shape).Idx → EReal) (bh : (⟨1, ![32]⟩ : Shape).Idx → EReal)
    (wo : (⟨2, ![20, 32]⟩ : Shape).Idx → EReal) (bo : (⟨1, ![20]⟩ : Shape).Idx → EReal) (j : Fin 20) : EReal :=
  ∑ u : Fin 32, Ideal.tanh (∑ k : Fin 128, w k * wh (ix2 u k) + bh (ix1 u)) * wo (ix2 j u) + bo (ix1 j)

/-- The greatest of 20 scores. -/
def top (o : Fin 20 → EReal) : EReal := Finset.univ.fold max (Ideal.ofBits .f32 0xFF800000#32) o

/-- The softmax of 20 scores: the exponentials of their distances from the greatest, over the exponentials' sum. -/
def soft (o : Fin 20 → EReal) (j : Fin 20) : EReal := Ideal.div (Ideal.exp (o j - top o)) (∑ k : Fin 20, Ideal.exp (o k - top o))

/-- A maximum that starts at a value is not changed by another maximum with that value. -/
theorem max_top (o : Fin 20 → EReal) : max (Ideal.ofBits .f32 0xFF800000#32) (top o) = top o :=
  max_eq_right (Finset.le_fold_max _ |>.2 (Or.inl le_rfl))

/-! ## The program's second kernel -/

section
open Cert.KernelIdeal Cert.KernelIdeal.Gen

set_option maxRecDepth 16384 in
/-- What the second kernel stores for class `j`, the biases laid out as rows and the result as a vector: the softmax of the
    scores of the pooled row, the sum of the 32 partial sums times the constant `2⁻¹⁴`. -/
theorem dense_apply (p wh : FVec Ideal S32x128 .f32) (bh : FVec Ideal S32 .f32) (wo : FVec Ideal S20x32 .f32) (bo : FVec Ideal S20 .f32) (j : Fin 20) :
    shapeCast S20 (k1_pay1 (F := Ideal) p wh (shapeCast S1x32 bh shapeCasts_S32_S1x32) wo (shapeCast S1x20 bo shapeCasts_S20_S1x20))
      shapeCasts_S1x20_S20 (ix1 j) =
    soft (score (fun k => (∑ r : Fin 32, p (ix2 r k)) * Ideal.ofBits .f32 0x38800000#32) wh bh wo bo) j := by
  pointwise [k1_pay1]
  rfl

end

/-! ## The reference's last operations -/

section
open Cert.ReferenceIdeal Cert.ReferenceIdeal.Gen

/-- The reference's scores of a summed row. -/
def refScores (s : FVec Ideal S128 .f32) (wh : FVec Ideal S32x128 .f32) (bh : FVec Ideal S32 .f32) (wo : FVec Ideal S20x32 .f32)
    (bo : FVec Ideal S20 .f32) : FVec Ideal S20 .f32 :=
  addf (Host.dotGeneral dot_S32_S32x20_S20_0_0_n_1_n_n none (Host.tanh (addf (Host.dotGeneral dot_S128_S128x32_S32_0_0_n_1_n_n none
    (Host.divf s (broadcastInDim S128 ![] bcast_S_S128 (constant S_ .f32 0x46800000#32)))
    (transpose S128x32 [1, 0] wh transposes_S32x128_S128x32_1_0)) bh)) (transpose S32x20 [1, 0] wo transposes_S20x32_S32x20_1_0)) bo

/-- The reference's exponentials of 20 scores. -/
def refExps (o : FVec Ideal S20 .f32) : FVec Ideal S20 .f32 :=
  Host.exp (subf o (broadcastInDim S20 ![0] bcast_S1_S20_0 (broadcastInDim S1 ![] bcast_S_S1 (maximumf (constant S_ .f32 0xFF800000#32)
    (Host.reduce FloatOps.maximumf o (constant S_ .f32 0xFF800000#32) reducesTo_S20_S_d0 h_S_)))))

/-- The reference's softmax of 20 scores. -/
def refSoft (o : FVec Ideal S20 .f32) : FVec Ideal S20 .f32 :=
  Host.divf (refExps o) (broadcastInDim S20 ![0] bcast_S1_S20_0 (broadcastInDim S1 ![] bcast_S_S1
    (Host.reduceAdd (refExps o) (constant S_ .f32 0x00000000#32) reducesTo_S20_S_d0 h_S_)))

set_option maxRecDepth 16384 in
/-- The reference's score of class `j`: that of the summed row divided by 16384. -/
theorem refScores_apply (s : FVec Ideal S128 .f32) (wh : FVec Ideal S32x128 .f32) (bh : FVec Ideal S32 .f32) (wo : FVec Ideal S20x32 .f32)
    (bo : FVec Ideal S20 .f32) (j : Fin 20) :
    refScores s wh bh wo bo (ix1 j) = score (fun k => Ideal.div (s (ix1 k)) (Ideal.ofBits .f32 0x46800000#32)) wh bh wo bo j := by
  pointwise [refScores]
  rfl

set_option maxRecDepth 16384 in
/-- The reference's exponential of class `j`: of the score's distance from the greatest. -/
theorem refExps_apply (o : FVec Ideal S20 .f32) (j : Fin 20) :
    refExps o (ix1 j) = Ideal.exp (o (ix1 j) - top fun k => o (ix1 k)) := by
  rw [← max_top]
  pointwise [refExps]
  rfl

set_option maxRecDepth 16384 in
/-- The reference's softmax at class `j`. -/
theorem refSoft_apply (o : FVec Ideal S20 .f32) (j : Fin 20) : refSoft o (ix1 j) = soft (fun k => o (ix1 k)) j := by
  unfold soft
  simp only [← refExps_apply]
  pointwise [refSoft]

/-- The reference's result from the summed row: the softmax of the scores. -/
theorem ref_dense (s : FVec Ideal S128 .f32) (wh : FVec Ideal S32x128 .f32) (bh : FVec Ideal S32 .f32) (wo : FVec Ideal S20x32 .f32)
    (bo : FVec Ideal S20 .f32) (j : Fin 20) :
    refSoft (refScores s wh bh wo bo) (ix1 j) =
      soft (score (fun k => Ideal.div (s (ix1 k)) (Ideal.ofBits .f32 0x46800000#32)) wh bh wo bo) j := by
  rw [refSoft_apply]
  simp only [refScores_apply]

end

/-! ## The two constants -/

/-- Over the extended reals, times `2⁻¹⁴` is divided by 16384, of an infinite value too. -/
theorem scale_eq (x : EReal) : x * Ideal.ofBits .f32 0x38800000#32 = Ideal.div x (Ideal.ofBits .f32 0x46800000#32) := by
  have h1 : Ideal.ofBits .f32 0x38800000#32 = (((16384 : ℝ)⁻¹ : ℝ) : EReal) := by
    have he : (BitVec.extractLsb' 23 8 (0x38800000#32)).toNat = 113 := by decide
    have hf : (BitVec.extractLsb' 0 23 (0x38800000#32)).toNat = 0 := by decide
    have hs : (BitVec.extractLsb' (8 + 23) 1 (0x38800000#32) == 1#1) = false := by decide
    simp only [Ideal.ofBits, Ideal.ieee, he, hf, hs]
    norm_num
  have h2 : Ideal.ofBits .f32 0x46800000#32 = ((16384 : ℝ) : EReal) := by
    have he : (BitVec.extractLsb' 23 8 (0x46800000#32)).toNat = 141 := by decide
    have hf : (BitVec.extractLsb' 0 23 (0x46800000#32)).toNat = 0 := by decide
    have hs : (BitVec.extractLsb' (8 + 23) 1 (0x46800000#32) == 1#1) = false := by decide
    simp only [Ideal.ofBits, Ideal.ieee, he, hf, hs]
    norm_num
  rw [h1, h2, Ideal.div, if_neg (by norm_num [EReal.coe_eq_zero]), EReal.coe_inv]

end Cert.Proof.Pool

end
-- ==== Proof.Pool.lean ====
/-
  The pooled row, over the extended reals: the 32 partial sums of the tiles and the reference's sum of its taken rows
  are both the sum, over all 16384 indices, of the rows of the table that they name.
-/
module

public import proofs.«01_k».proof.Proof.Dense
public import Idealize.ShloMosaic.Lib.Pointwise.IndexBridge
public import Idealize.ShloMosaic.Lib.Routing.Ops
public import Idealize.ShloMosaic.Lib.Routing.OpsPair
public import Idealize.ShloMosaic.Lib.StableHlo.Predicate

@[expose] public section

noncomputable section

namespace Cert.Proof.Pool

open Idealize.ShloMosaic

/-- Column `k` of the sum of the rows of the table that the 16384 indices name. -/
def pooled (x : (⟨1, ![16384]⟩ : Shape).Idx → BitVec 32) (e : (⟨2, ![1000000, 128]⟩ : Shape).Idx → EReal) (k : Fin 128) : EReal :=
  ∑ i : (⟨1, ![16384]⟩ : Shape).Idx, e (ix2 (tableRow (x i)) k)

/-! ## The tiles' partial sums -/

section
open Cert.KernelIdeal Cert.KernelIdeal.Gen

/-- A block's first `n` rows added to running sums, in order, add their sum. -/
theorem addRows_eq (g : S128x128.Idx → Ideal .f32) (A : ℕ → Ideal .f32) (l : ℕ) (n : ℕ) :
    addRows g n A l = A l + ∑ r ∈ Finset.range n, blockAt g r l := by
  induction n with
  | zero => simp [addRows]
  | succ n ih =>
    rw [Finset.sum_range_succ, ← add_assoc, ← ih]
    rfl

/-- A whole block added to running sums, at a column below 128. -/
theorem addRows_block (g : S128x128.Idx → Ideal .f32) (A : ℕ → Ideal .f32) (l : Fin 128) :
    addRows g 128 A l.val = A l.val + ∑ r : Fin 128, g (ix2 r l) := by
  rw [addRows_eq, Finset.sum_range]
  refine congrArg (A l.val + ·) (Finset.sum_congr rfl fun r _ => ?_)
  simp only [blockAt, Fin.ofNat_val_eq_self, ix2_eq_valueIdx]

/-- A tile's sums: over its four chunks and the 128 indices of each, the rows they name. -/
theorem tileSum_eq (x : S32x4x128.Idx → BitVec 32) (e : S1000000x128.Idx → Ideal .f32) (w : Fin 32) (l : Fin 128) :
    tileSum (F := Ideal) x e w l.val = ∑ j : Fin 4, ∑ r : Fin 128, e (ix2 (tableRow (x (ix3 w j r))) l) := by
  have z : zeros (F := Ideal) l.val = 0 := Ideal.ofBits_zero_f32
  have hg : ∀ (j : Fin 4) (r : Fin 128), gathered (F := Ideal) x e w j (ix2 r l) = e (ix2 (tableRow (x (ix3 w j r))) l) := fun j r => by
    simp only [ix2_eq_valueIdx, ix3_eq_valueIdx]
    rfl
  unfold tileSum
  simp only [addRows_block, z, hg, Fin.sum_univ_four, zero_add]

/-- The 32 partial sums, over the indices laid out per tile, add up to the pooled row. -/
theorem poolOut_sum (x : S16384.Idx → BitVec 32) (e : S1000000x128.Idx → Ideal .f32) (k : Fin 128) :
    ∑ r : Fin 32, poolOut (F := Ideal) (shapeCast S32x4x128 x shapeCasts_S16384_S32x4x128) e (ix2 r k) = pooled x e k := by
  have h : ∀ r : Fin 32, poolOut (F := Ideal) (shapeCast S32x4x128 x shapeCasts_S16384_S32x4x128) e (ix2 r k) =
      ∑ j : Fin 4, ∑ q : Fin 128, e (ix2 (tableRow (shapeCast S32x4x128 x shapeCasts_S16384_S32x4x128 (ix3 r j q))) k) := fun r =>
    tileSum_eq _ e r k
  rw [Finset.sum_congr rfl fun r _ => h r,
    ← sum_idx3 fun i => e (ix2 (tableRow (shapeCast S32x4x128 x shapeCasts_S16384_S32x4x128 i)) k)]
  exact Equiv.sum_comp (Shape.reshapeEquiv shapeCasts_S16384_S32x4x128) fun i => e (ix2 (tableRow (x i)) k)

end

/-! ## The reference's taken rows -/

section
open Cert.ReferenceIdeal Cert.ReferenceIdeal.Gen

/-- The reference's indices: a negative one counted from the table's end, as a column. -/
def refIdx (x : IVec S16384 32) : IVec S16384x1 32 :=
  broadcastInDim S16384x1 ![0] bcast_S16384_S16384x1_0 (select (cmpi .slt x (broadcastInDim S16384 ![] bcast_S_S16384 (constantI S_ 32 0#32)))
    (addi x (broadcastInDim S16384 ![] bcast_S_S16384 (constantI S_ 32 1000000#32))) x)

/-- Which of the reference's indices are in the table. -/
def refMask (x : IVec S16384 32) : IVec S16384 1 :=
  Host.reduce IntOp.andi (andi (cmpi .sge (refIdx x) (broadcastInDim S16384x1 ![] bcast_S_S16384x1 (constantI S_ 32 0#32)))
    (cmpi .sle (refIdx x) (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- The rows the reference takes: of an index in the table its row, of another a row of NaN. -/
def refRows (x : IVec S16384 32) (e : FVec Ideal S1000000x128 .f32) : FVec Ideal S16384x128 .f32 :=
  select (broadcastInDim S16384x128 ![0] bcast_S16384_S16384x128_0 (refMask x))
    (Host.gather gather_S1000000x128_S16384x1_S16384x128_1_0_n_n_0_1_1128 e (refIdx x))
    (broadcastInDim S16384x128 ![] bcast_S_S16384x128 (constant S_ .f32 0x7FC00000#32))

/-- The sum of the rows the reference takes. -/
def refSum (x : IVec S16384 32) (e : FVec Ideal S1000000x128 .f32) : FVec Ideal S128 .f32 :=
  Host.reduceAdd (refRows x e) (constant S_ .f32 0x00000000#32) reducesTo_S16384x128_S128_d0 h_S_

/-- An index in range is not shifted. -/
theorem refIdx_apply (x : IVec S16384 32) (hx : ∀ j, (x j : BitVec 32).toNat < 1000000) (i : Fin 16384) (z : Fin 1) :
    refIdx x (ix2 i z) = x (ix1 i) := by
  have h : Scalar.select (IntOp.cmpi .slt (x (ix1 i)) 0#32) (IntOp.addi (x (ix1 i)) 1000000#32) (x (ix1 i)) = x (ix1 i) :=
    Routing.wrap_of_lt _ _ (lt_trans (hx _) (by decide))
  rw [← h]
  pointwise [refIdx]

/-- Indices in range are all in the table. -/
theorem refMask_apply (x : IVec S16384 32) (hx : ∀ j, (x j : BitVec 32).toNat < 1000000) (j : S16384.Idx) : refMask x j = 1#1 := by
  refine Host.reduce_andi_one _ _ _ _ _ rfl fun i => ?_
  obtain ⟨a, b, rfl⟩ : ∃ (a : Fin 16384) (b : Fin 1), i = ix2 a b := ⟨i 0, i 1, eq_ix2 i⟩
  have h0 : IntOp.cmpi .sge (x (ix1 a)) 0#32 = 1#1 :=
    (StableHlo.Predicate.sge_iff_toNat (lt_trans (hx _) (by decide)) (by decide)).2 (Nat.zero_le _)
  have h1 : IntOp.cmpi .sle (x (ix1 a)) 999999#32 = 1#1 :=
    (StableHlo.Predicate.sle_iff_toNat (lt_trans (hx _) (by decide)) (by decide)).2 (Nat.le_of_lt_succ (hx _))
  show IntOp.andi (IntOp.cmpi .sge (refIdx x (ix2 a b)) 0#32) (IntOp.cmpi .sle (refIdx x (ix2 a b)) 999999#32) = 1#1
  rw [refIdx_apply x hx, h0, h1]
  rfl

/-- The row the reference takes for an index in range: the one it names. -/
theorem refRows_apply (x : IVec S16384 32) (hx : ∀ j, (x j : BitVec 32).toNat < 1000000) (e : FVec Ideal S1000000x128 .f32)
    (i : Fin 16384) (k : Fin 128) : refRows x e (ix2 i k) = e (ix2 (tableRow (x (ix1 i))) k) := by
  have hm : broadcastInDim S16384x128 ![0] bcast_S16384_S16384x128_0 (refMask x) (ix2 i k) = 1#1 := refMask_apply x hx _
  have hrow : (tableRow (x (ix1 i))).val = (x (ix1 i)).toNat := Nat.mod_eq_of_lt (hx _)
  have hg : Host.gather gather_S1000000x128_S16384x1_S16384x128_1_0_n_n_0_1_1128 e (refIdx x) (ix2 i k) = e (ix2 (tableRow (x (ix1 i))) k) := by
    simp only [ix2_eq_valueIdx]
    refine Routing.gather_row (nb := 1000000) (B := 128) (n := 16384) _ rfl rfl rfl rfl rfl e (refIdx x) i k (tableRow (x (ix1 i))) ?_ (by decide)
    rw [← ix2_eq_valueIdx, refIdx_apply x hx, hrow, BitVec.ofNat_toNat, BitVec.setWidth_eq]
  unfold refRows
  rw [ValueIdx.select_apply, hm, hg, ValueIdx.select_one]

/-- The reference's sum of its rows is the pooled row. -/
theorem refSum_apply (x : IVec S16384 32) (hx : ∀ j, (x j : BitVec 32).toNat < 1000000) (e : FVec Ideal S1000000x128 .f32) (k : Fin 128) :
    refSum x e (ix1 k) = pooled x e k := by
  unfold pooled
  rw [sum_idx1]
  simp only [← refRows_apply x hx e]
  pointwise [refSum]

end

end Cert.Proof.Pool

end
-- ==== Proof.Value.lean ====
/-
  The value claim: over the extended reals and for indices in range, the program's result is the reference's.
-/
module

public import proofs.«01_k».proof.Proof.Pool

@[expose] public section

noncomputable section

namespace Cert.Proof.Pool

open Idealize.ShloMosaic Idealize.SL.Sem

/-- The program's result at class `j`: the softmax of the scores of the pooled row divided by 16384. -/
theorem result_apply (m : (ℓ : Loc Cert.KernelIdeal.nD Cert.KernelIdeal.τ Cert.KernelIdeal.sig) → Buf (Elt Ideal) ℓ) (c : Dev Cert.KernelIdeal.nD)
    (j : Fin 20) :
    result (F := Ideal) m c (ix1 j) =
      soft (score (fun k => Ideal.div (pooled (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) k) (Ideal.ofBits .f32 0x46800000#32))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))) j := by
  have hw : (fun k : Fin 128 => (∑ r : Fin 32, poolOut (F := Ideal) (idxIn m c) (tblIn m c) (ix2 r k)) * Ideal.ofBits .f32 0x38800000#32) =
      fun k => Ideal.div (pooled (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) k) (Ideal.ofBits .f32 0x46800000#32) :=
    funext fun k => by
      have hp := poolOut_sum (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) k
      rw [← hp]
      exact scale_eq _
  rw [← hw]
  exact dense_apply (poolOut (F := Ideal) (idxIn m c) (tblIn m c)) _ _ _ _ j

/-- The reference's result, spelt by its steps. -/
theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v20 (F := Ideal) m c =
      refSoft (refScores (refSum (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))) := by
  unfold Cert.ReferenceIdeal.Value.res_main_v20 refSoft refExps refScores refSum refRows refMask refIdx
  rfl

/-- From arguments that agree, the indices in range, the reference's result is the program's. -/
theorem ref_result (m : (ℓ : Loc Cert.KernelIdeal.nD Cert.KernelIdeal.τ Cert.KernelIdeal.sig) → Buf (Elt Ideal) ℓ) (h : InVocab (F := Ideal) m)
    (m' : (ℓ : Loc Cert.ReferenceIdeal.nD Cert.ReferenceIdeal.τ Cert.ReferenceIdeal.sig) → Buf (Elt Ideal) ℓ) (c : Dev Cert.KernelIdeal.nD)
    (a : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v20 (F := Ideal) m' c = result (F := Ideal) m c := by
  obtain ⟨a0, a1, a2, a3, a4, a5⟩ := a
  rw [ref_eq, a0, a1, a2, a3, a4, a5]
  funext y
  obtain ⟨j, rfl⟩ : ∃ j : Fin 20, y = ix1 j := ⟨y 0, eq_ix1 y⟩
  refine (ref_dense _ _ _ _ _ j).trans ?_
  simp only [refSum_apply _ (h c)]
  exact (result_apply m c j).symm

/-- From memories that agree on the arguments, the indices in range: both programs run, end with equal results and leave
    their arguments as they were. -/
theorem algebraic : Cert.algebraic_KernelIdeal_ReferenceIdeal := fun m ρ m' ρ' hpre hagree =>
  ⟨fun c => result (F := Ideal) m c,
    (θ_run Cert.KernelIdeal.defs _ _).mono (fun _ q => q.1) (run_main (F := Ideal) m ρ (inVocab_ideal m hpre)),
    (θ_run Cert.ReferenceIdeal.defs _ _).mono
      (fun _ q c => ⟨(q c).1.trans (ref_result m (inVocab_ideal m hpre) m' c (hagree c)), (q c).2⟩)
      (Cert.ReferenceIdeal.Value.run (F := Ideal) m' ρ')⟩

end Cert.Proof.Pool

end
-- ==== Proof.lean ====
/-
  The claim of this certificate: the program that pools 16384 rows of an embedding table on the SparseCores and runs two
  dense layers and a softmax on the TensorCore runs to a quiescent end with its arguments unchanged, over words and over
  the extended reals, and over the extended reals its result is the reference's, for indices that name rows of the table.
  Proof/Setup.lean and Proof/Tile.lean prove a tile's task, Proof/Region.lean the dense layers' kernel, Proof/Launch.lean
  the whole program's run over any values; Proof/Frames.lean reads the frames off it; Proof/Dense.lean, Proof/Pool.lean
  and Proof/Value.lean compare its result with the reference's.
-/
module

public import proofs.«01_k».proof.Proof.Gen.ReferenceIdeal.Run
public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_vocab
public import Idealize.ShloMosaic.Adequacy
public import Idealize.ShloMosaic.Init

@[expose] public section

noncomputable section

namespace Cert.Proof

open Idealize.ShloMosaic Idealize.SL.Sem Cert.Kernel

/-- `Cert.Claim` (Defs.lean): the four frames, the idealization, which rewrites nothing, and the value claim. -/
theorem claim : Cert.Claim :=
  ⟨Cert.Kernel.Gen.facts, Cert.KernelIdeal.Gen.facts, Cert.ReferenceIdeal.Gen.facts, Cert.Pre_in_vocab.Gen.facts,
    Pool.frame_kernel, Pool.frame_kernelIdeal, Pool.frame_reference, Pool.frame_reference_pre, trivial, Pool.algebraic⟩

end Cert.Proof

end
